-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S3x512x512 : Shape := ⟨3, ![3, 512, 512]⟩
abbrev S4x512x512 : Shape := ⟨3, ![4, 512, 512]⟩
abbrev S3x2 : Shape := ⟨2, ![3, 2]⟩
abbrev S_ : Shape := ⟨0, ![]⟩
abbrev S512x256 : Shape := ⟨2, ![512, 256]⟩
abbrev S1x512x256 : Shape := ⟨3, ![1, 512, 256]⟩
abbrev S1x1 : Shape := ⟨2, ![1, 1]⟩

abbrev nBuf : Space → Nat
  | .hbm => 2
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S3x512x512, .bf16⟩
  | .local _ .vmem, ⟨3, _⟩ => ⟨S3x512x512, .bf16⟩
  | .local _ .vmem, ⟨4, _⟩ => ⟨S3x512x512, .bf16⟩
  | .local _ .vmem, ⟨5, _⟩ => ⟨S3x512x512, .bf16⟩
  | .local _ .vmem, ⟨6, _⟩ => ⟨S4x512x512, .bf16⟩
  | .local _ .vmem, ⟨7, _⟩ => ⟨S4x512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_19 : BitVec 32 := 4#32
  let c0_i32_20 : BitVec 32 := 0#32
  let v30 : BitVec 1 := Scalar.cmpi .eq c4_i32_19 c0_i32_20
  let c1_i32_21 : BitVec 32 := 1#32
  let v31 : BitVec 32 := Scalar.select v30 c1_i32_21 c4_i32_19
  let v32 : BitVec 32 := Scalar.remsi v2 v31
  let c0_i32_23 : BitVec 32 := 0#32
  let v34 : BitVec 1 := Scalar.cmpi .slt v32 c0_i32_23
  let c0_i32_24 : BitVec 32 := 0#32
  let v35 : BitVec 1 := Scalar.cmpi .slt v31 c0_i32_24
  let v36 : BitVec 1 := Scalar.xori v34 v35
  let c0_i32_22 : BitVec 32 := 0#32
  let v33 : BitVec 1 := Scalar.cmpi .ne v32 c0_i32_22
  let v37 : BitVec 1 := Scalar.andi v36 v33
  let v38 : BitVec 32 := Scalar.addi v32 v31
  let v39 : BitVec 32 := Scalar.select v37 v38 v32
  let c512_i32 : BitVec 32 := 512#32
  let v40 : BitVec 32 := Scalar.muli v39 c512_i32
  let v41 : Index := Scalar.indexCast v40
  let c0 : Index := 0#32
  ![v41.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v48 : BitVec 32 := Scalar.muli v24 c1_i32_34
  let v49 : BitVec 32 := Scalar.addi c0_i32_35 v48
  v49.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_40 : BitVec 32 := 4#32
  let c0_i32_41 : BitVec 32 := 0#32
  let v58 : BitVec 1 := Scalar.cmpi .eq c4_i32_40 c0_i32_41
  let c1_i32_42 : BitVec 32 := 1#32
  let v59 : BitVec 32 := Scalar.select v58 c1_i32_42 c4_i32_40
  let v60 : BitVec 32 := Scalar.remsi v2 v59
  let c0_i32_44 : BitVec 32 := 0#32
  let v62 : BitVec 1 := Scalar.cmpi .slt v60 c0_i32_44
  let c0_i32_45 : BitVec 32 := 0#32
  let v63 : BitVec 1 := Scalar.cmpi .slt v59 c0_i32_45
  let v64 : BitVec 1 := Scalar.xori v62 v63
  let c0_i32_43 : BitVec 32 := 0#32
  let v61 : BitVec 1 := Scalar.cmpi .ne v60 c0_i32_43
  let v65 : BitVec 1 := Scalar.andi v64 v61
  let v66 : BitVec 32 := Scalar.addi v60 v59
  let v67 : BitVec 32 := Scalar.select v65 v66 v60
  let c512_i32_46 : BitVec 32 := 512#32
  let v68 : BitVec 32 := Scalar.muli v67 c512_i32_46
  let v69 : Index := Scalar.indexCast v68
  let c512 : Index := 512#32
  ![v69.toNat, 512]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_56 : BitVec 32 := 1#32
  let v76 : BitVec 32 := Scalar.muli v13 c1_i32_56
  let v77 : BitVec 32 := Scalar.addi c0_i32_57 v76
  v77.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_62 : BitVec 32 := 4#32
  let c0_i32_63 : BitVec 32 := 0#32
  let v86 : BitVec 1 := Scalar.cmpi .eq c4_i32_62 c0_i32_63
  let c1_i32_64 : BitVec 32 := 1#32
  let v87 : BitVec 32 := Scalar.select v86 c1_i32_64 c4_i32_62
  let v88 : BitVec 32 := Scalar.remsi v2 v87
  let c0_i32_66 : BitVec 32 := 0#32
  let v90 : BitVec 1 := Scalar.cmpi .slt v88 c0_i32_66
  let c0_i32_67 : BitVec 32 := 0#32
  let v91 : BitVec 1 := Scalar.cmpi .slt v87 c0_i32_67
  let v92 : BitVec 1 := Scalar.xori v90 v91
  let c0_i32_65 : BitVec 32 := 0#32
  let v89 : BitVec 1 := Scalar.cmpi .ne v88 c0_i32_65
  let v93 : BitVec 1 := Scalar.andi v92 v89
  let v94 : BitVec 32 := Scalar.addi v88 v87
  let v95 : BitVec 32 := Scalar.select v93 v94 v88
  let c512_i32_68 : BitVec 32 := 512#32
  let v96 : BitVec 32 := Scalar.muli v95 c512_i32_68
  let v97 : Index := Scalar.indexCast v96
  let c256 : Index := 256#32
  ![v97.toNat, 256]
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_78 : BitVec 32 := 1#32
  let v104 : BitVec 32 := Scalar.muli v24 c1_i32_78
  let v105 : BitVec 32 := Scalar.addi c0_i32_79 v104
  v105.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_83 : BitVec 32 := 4#32
  let c0_i32_84 : BitVec 32 := 0#32
  let v114 : BitVec 1 := Scalar.cmpi .eq c4_i32_83 c0_i32_84
  let c1_i32_85 : BitVec 32 := 1#32
  let v115 : BitVec 32 := Scalar.select v114 c1_i32_85 c4_i32_83
  let v116 : BitVec 32 := Scalar.remsi v2 v115
  let c0_i32_87 : BitVec 32 := 0#32
  let v118 : BitVec 1 := Scalar.cmpi .slt v116 c0_i32_87
  let c0_i32_88 : BitVec 32 := 0#32
  let v119 : BitVec 1 := Scalar.cmpi .slt v115 c0_i32_88
  let v120 : BitVec 1 := Scalar.xori v118 v119
  let c0_i32_86 : BitVec 32 := 0#32
  let v117 : BitVec 1 := Scalar.cmpi .ne v116 c0_i32_86
  let v121 : BitVec 1 := Scalar.andi v120 v117
  let v122 : BitVec 32 := Scalar.addi v116 v115
  let v123 : BitVec 32 := Scalar.select v121 v122 v116
  let c512_i32_89 : BitVec 32 := 512#32
  let v124 : BitVec 32 := Scalar.muli v123 c512_i32_89
  let v125 : Index := Scalar.indexCast v124
  let c768 : Index := 768#32
  ![v125.toNat, 768]
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_99 : BitVec 32 := 1#32
  let v132 : BitVec 32 := Scalar.muli v13 c1_i32_99
  let v133 : BitVec 32 := Scalar.addi c0_i32_100 v132
  v133.toNat
def k0_off5 (d0 : Dev nD) (c0_i32_117 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v150 : BitVec 32 := Scalar.subi v2 c0_i32_117
  let c1_i32_118 : BitVec 32 := 1#32
  let v151 : BitVec 32 := Scalar.subi v150 c1_i32_118
  let c4_i32_122 : BitVec 32 := 4#32
  let c0_i32_123 : BitVec 32 := 0#32
  let v155 : BitVec 1 := Scalar.cmpi .eq c4_i32_122 c0_i32_123
  let c1_i32_124 : BitVec 32 := 1#32
  let v156 : BitVec 32 := Scalar.select v155 c1_i32_124 c4_i32_122
  let v157 : BitVec 32 := Scalar.remsi v151 v156
  let c0_i32_126 : BitVec 32 := 0#32
  let v159 : BitVec 1 := Scalar.cmpi .slt v157 c0_i32_126
  let c0_i32_127 : BitVec 32 := 0#32
  let v160 : BitVec 1 := Scalar.cmpi .slt v156 c0_i32_127
  let v161 : BitVec 1 := Scalar.xori v159 v160
  let c0_i32_125 : BitVec 32 := 0#32
  let v158 : BitVec 1 := Scalar.cmpi .ne v157 c0_i32_125
  let v162 : BitVec 1 := Scalar.andi v161 v158
  let v163 : BitVec 32 := Scalar.addi v157 v156
  let v164 : BitVec 32 := Scalar.select v162 v163 v157
  let c512_i32_128 : BitVec 32 := 512#32
  let v165 : BitVec 32 := Scalar.muli v164 c512_i32_128
  let v166 : Index := Scalar.indexCast v165
  let c0_129 : Index := 0#32
  ![v166.toNat, 0]
def k0_dev7 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_138 : BitVec 32 := 1#32
  let v174 : BitVec 32 := Scalar.muli v24 c1_i32_138
  let v175 : BitVec 32 := Scalar.addi c0_i32_139 v174
  v175.toNat
def k0_off6 (d0 : Dev nD) (c0_i32_156 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v192 : BitVec 32 := Scalar.addi v2 c0_i32_156
  let c1_i32_157 : BitVec 32 := 1#32
  let v193 : BitVec 32 := Scalar.addi v192 c1_i32_157
  let c4_i32_161 : BitVec 32 := 4#32
  let c0_i32_162 : BitVec 32 := 0#32
  let v197 : BitVec 1 := Scalar.cmpi .eq c4_i32_161 c0_i32_162
  let c1_i32_163 : BitVec 32 := 1#32
  let v198 : BitVec 32 := Scalar.select v197 c1_i32_163 c4_i32_161
  let v199 : BitVec 32 := Scalar.remsi v193 v198
  let c0_i32_165 : BitVec 32 := 0#32
  let v201 : BitVec 1 := Scalar.cmpi .slt v199 c0_i32_165
  let c0_i32_166 : BitVec 32 := 0#32
  let v202 : BitVec 1 := Scalar.cmpi .slt v198 c0_i32_166
  let v203 : BitVec 1 := Scalar.xori v201 v202
  let c0_i32_164 : BitVec 32 := 0#32
  let v200 : BitVec 1 := Scalar.cmpi .ne v199 c0_i32_164
  let v204 : BitVec 1 := Scalar.andi v203 v200
  let v205 : BitVec 32 := Scalar.addi v199 v198
  let v206 : BitVec 32 := Scalar.select v204 v205 v199
  let c512_i32_167 : BitVec 32 := 512#32
  let v207 : BitVec 32 := Scalar.muli v206 c512_i32_167
  let v208 : Index := Scalar.indexCast v207
  let c512_168 : Index := 512#32
  ![v208.toNat, 512]
def k0_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_178 : BitVec 32 := 1#32
  let v216 : BitVec 32 := Scalar.muli v13 c1_i32_178
  let v217 : BitVec 32 := Scalar.addi c0_i32_179 v216
  v217.toNat
def k0_off7 (d0 : Dev nD) (c0_i32_196 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v234 : BitVec 32 := Scalar.subi v2 c0_i32_196
  let c1_i32_197 : BitVec 32 := 1#32
  let v235 : BitVec 32 := Scalar.subi v234 c1_i32_197
  let c4_i32_201 : BitVec 32 := 4#32
  let c0_i32_202 : BitVec 32 := 0#32
  let v239 : BitVec 1 := Scalar.cmpi .eq c4_i32_201 c0_i32_202
  let c1_i32_203 : BitVec 32 := 1#32
  let v240 : BitVec 32 := Scalar.select v239 c1_i32_203 c4_i32_201
  let v241 : BitVec 32 := Scalar.remsi v235 v240
  let c0_i32_205 : BitVec 32 := 0#32
  let v243 : BitVec 1 := Scalar.cmpi .slt v241 c0_i32_205
  let c0_i32_206 : BitVec 32 := 0#32
  let v244 : BitVec 1 := Scalar.cmpi .slt v240 c0_i32_206
  let v245 : BitVec 1 := Scalar.xori v243 v244
  let c0_i32_204 : BitVec 32 := 0#32
  let v242 : BitVec 1 := Scalar.cmpi .ne v241 c0_i32_204
  let v246 : BitVec 1 := Scalar.andi v245 v242
  let v247 : BitVec 32 := Scalar.addi v241 v240
  let v248 : BitVec 32 := Scalar.select v246 v247 v241
  let c512_i32_207 : BitVec 32 := 512#32
  let v249 : BitVec 32 := Scalar.muli v248 c512_i32_207
  let v250 : Index := Scalar.indexCast v249
  let c256_208 : Index := 256#32
  ![v250.toNat, 256]
def k0_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_218 : BitVec 32 := 1#32
  let v258 : BitVec 32 := Scalar.muli v24 c1_i32_218
  let v259 : BitVec 32 := Scalar.addi c0_i32_219 v258
  v259.toNat
def k0_off8 (d0 : Dev nD) (c0_i32_236 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v276 : BitVec 32 := Scalar.addi v2 c0_i32_236
  let c1_i32_237 : BitVec 32 := 1#32
  let v277 : BitVec 32 := Scalar.addi v276 c1_i32_237
  let c4_i32_241 : BitVec 32 := 4#32
  let c0_i32_242 : BitVec 32 := 0#32
  let v281 : BitVec 1 := Scalar.cmpi .eq c4_i32_241 c0_i32_242
  let c1_i32_243 : BitVec 32 := 1#32
  let v282 : BitVec 32 := Scalar.select v281 c1_i32_243 c4_i32_241
  let v283 : BitVec 32 := Scalar.remsi v277 v282
  let c0_i32_245 : BitVec 32 := 0#32
  let v285 : BitVec 1 := Scalar.cmpi .slt v283 c0_i32_245
  let c0_i32_246 : BitVec 32 := 0#32
  let v286 : BitVec 1 := Scalar.cmpi .slt v282 c0_i32_246
  let v287 : BitVec 1 := Scalar.xori v285 v286
  let c0_i32_244 : BitVec 32 := 0#32
  let v284 : BitVec 1 := Scalar.cmpi .ne v283 c0_i32_244
  let v288 : BitVec 1 := Scalar.andi v287 v284
  let v289 : BitVec 32 := Scalar.addi v283 v282
  let v290 : BitVec 32 := Scalar.select v288 v289 v283
  let c512_i32_247 : BitVec 32 := 512#32
  let v291 : BitVec 32 := Scalar.muli v290 c512_i32_247
  let v292 : Index := Scalar.indexCast v291
  let c768_248 : Index := 768#32
  ![v292.toNat, 768]
def k0_dev10 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_258 : BitVec 32 := 1#32
  let v300 : BitVec 32 := Scalar.muli v13 c1_i32_258
  let v301 : BitVec 32 := Scalar.addi c0_i32_259 v300
  v301.toNat
def k0_dev11 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_297 : BitVec 32 := 1#32
  let v342 : BitVec 32 := Scalar.muli v24 c1_i32_297
  let v343 : BitVec 32 := Scalar.addi c0_i32_298 v342
  v343.toNat
def k0_dev12 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_337 : BitVec 32 := 1#32
  let v384 : BitVec 32 := Scalar.muli v13 c1_i32_337
  let v385 : BitVec 32 := Scalar.addi c0_i32_338 v384
  v385.toNat
def k0_dev13 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_377 : BitVec 32 := 1#32
  let v426 : BitVec 32 := Scalar.muli v24 c1_i32_377
  let v427 : BitVec 32 := Scalar.addi c0_i32_378 v426
  v427.toNat
def k0_dev14 (d0 : Dev nD) : Nat :=
  let c0_i32_418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_417 : BitVec 32 := 1#32
  let v468 : BitVec 32 := Scalar.muli v13 c1_i32_417
  let v469 : BitVec 32 := Scalar.addi c0_i32_418 v468
  v469.toNat
def k0_dev15 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_457 : BitVec 32 := 1#32
  let v518 : BitVec 32 := Scalar.muli v24 c1_i32_457
  let v519 : BitVec 32 := Scalar.addi c0_i32_458 v518
  v519.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_463 : BitVec 32 := 1#32
  let v528 : BitVec 32 := Scalar.addi v2 c1_i32_463
  let c4_i32_464 : BitVec 32 := 4#32
  let c0_i32_465 : BitVec 32 := 0#32
  let v529 : BitVec 1 := Scalar.cmpi .eq c4_i32_464 c0_i32_465
  let c1_i32_466 : BitVec 32 := 1#32
  let v530 : BitVec 32 := Scalar.select v529 c1_i32_466 c4_i32_464
  let v531 : BitVec 32 := Scalar.remsi v528 v530
  let c0_i32_468 : BitVec 32 := 0#32
  let v533 : BitVec 1 := Scalar.cmpi .slt v531 c0_i32_468
  let c0_i32_469 : BitVec 32 := 0#32
  let v534 : BitVec 1 := Scalar.cmpi .slt v530 c0_i32_469
  let v535 : BitVec 1 := Scalar.xori v533 v534
  let c0_i32_467 : BitVec 32 := 0#32
  let v532 : BitVec 1 := Scalar.cmpi .ne v531 c0_i32_467
  let v536 : BitVec 1 := Scalar.andi v535 v532
  let v537 : BitVec 32 := Scalar.addi v531 v530
  let v538 : BitVec 32 := Scalar.select v536 v537 v531
  let c512_i32_470 : BitVec 32 := 512#32
  let v539 : BitVec 32 := Scalar.muli v538 c512_i32_470
  let v540 : Index := Scalar.indexCast v539
  let c0_471 : Index := 0#32
  ![v540.toNat, 0]
def k0_dev16 (d0 : Dev nD) : Nat :=
  let c0_i32_508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_507 : BitVec 32 := 1#32
  let v582 : BitVec 32 := Scalar.muli v13 c1_i32_507
  let v583 : BitVec 32 := Scalar.addi c0_i32_508 v582
  v583.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_513 : BitVec 32 := 1#32
  let v592 : BitVec 32 := Scalar.subi v2 c1_i32_513
  let c4_i32_514 : BitVec 32 := 4#32
  let c0_i32_515 : BitVec 32 := 0#32
  let v593 : BitVec 1 := Scalar.cmpi .eq c4_i32_514 c0_i32_515
  let c1_i32_516 : BitVec 32 := 1#32
  let v594 : BitVec 32 := Scalar.select v593 c1_i32_516 c4_i32_514
  let v595 : BitVec 32 := Scalar.remsi v592 v594
  let c0_i32_518 : BitVec 32 := 0#32
  let v597 : BitVec 1 := Scalar.cmpi .slt v595 c0_i32_518
  let c0_i32_519 : BitVec 32 := 0#32
  let v598 : BitVec 1 := Scalar.cmpi .slt v594 c0_i32_519
  let v599 : BitVec 1 := Scalar.xori v597 v598
  let c0_i32_517 : BitVec 32 := 0#32
  let v596 : BitVec 1 := Scalar.cmpi .ne v595 c0_i32_517
  let v600 : BitVec 1 := Scalar.andi v599 v596
  let v601 : BitVec 32 := Scalar.addi v595 v594
  let v602 : BitVec 32 := Scalar.select v600 v601 v595
  let c512_i32_520 : BitVec 32 := 512#32
  let v603 : BitVec 32 := Scalar.muli v602 c512_i32_520
  let v604 : Index := Scalar.indexCast v603
  let c512_521 : Index := 512#32
  ![v604.toNat, 512]
def k0_dev17 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_557 : BitVec 32 := 1#32
  let v646 : BitVec 32 := Scalar.muli v24 c1_i32_557
  let v647 : BitVec 32 := Scalar.addi c0_i32_558 v646
  v647.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_563 : BitVec 32 := 1#32
  let v656 : BitVec 32 := Scalar.addi v2 c1_i32_563
  let c4_i32_564 : BitVec 32 := 4#32
  let c0_i32_565 : BitVec 32 := 0#32
  let v657 : BitVec 1 := Scalar.cmpi .eq c4_i32_564 c0_i32_565
  let c1_i32_566 : BitVec 32 := 1#32
  let v658 : BitVec 32 := Scalar.select v657 c1_i32_566 c4_i32_564
  let v659 : BitVec 32 := Scalar.remsi v656 v658
  let c0_i32_568 : BitVec 32 := 0#32
  let v661 : BitVec 1 := Scalar.cmpi .slt v659 c0_i32_568
  let c0_i32_569 : BitVec 32 := 0#32
  let v662 : BitVec 1 := Scalar.cmpi .slt v658 c0_i32_569
  let v663 : BitVec 1 := Scalar.xori v661 v662
  let c0_i32_567 : BitVec 32 := 0#32
  let v660 : BitVec 1 := Scalar.cmpi .ne v659 c0_i32_567
  let v664 : BitVec 1 := Scalar.andi v663 v660
  let v665 : BitVec 32 := Scalar.addi v659 v658
  let v666 : BitVec 32 := Scalar.select v664 v665 v659
  let c512_i32_570 : BitVec 32 := 512#32
  let v667 : BitVec 32 := Scalar.muli v666 c512_i32_570
  let v668 : Index := Scalar.indexCast v667
  let c256_571 : Index := 256#32
  ![v668.toNat, 256]
def k0_dev18 (d0 : Dev nD) : Nat :=
  let c0_i32_608 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_607 : BitVec 32 := 1#32
  let v710 : BitVec 32 := Scalar.muli v13 c1_i32_607
  let v711 : BitVec 32 := Scalar.addi c0_i32_608 v710
  v711.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_613 : BitVec 32 := 1#32
  let v720 : BitVec 32 := Scalar.subi v2 c1_i32_613
  let c4_i32_614 : BitVec 32 := 4#32
  let c0_i32_615 : BitVec 32 := 0#32
  let v721 : BitVec 1 := Scalar.cmpi .eq c4_i32_614 c0_i32_615
  let c1_i32_616 : BitVec 32 := 1#32
  let v722 : BitVec 32 := Scalar.select v721 c1_i32_616 c4_i32_614
  let v723 : BitVec 32 := Scalar.remsi v720 v722
  let c0_i32_618 : BitVec 32 := 0#32
  let v725 : BitVec 1 := Scalar.cmpi .slt v723 c0_i32_618
  let c0_i32_619 : BitVec 32 := 0#32
  let v726 : BitVec 1 := Scalar.cmpi .slt v722 c0_i32_619
  let v727 : BitVec 1 := Scalar.xori v725 v726
  let c0_i32_617 : BitVec 32 := 0#32
  let v724 : BitVec 1 := Scalar.cmpi .ne v723 c0_i32_617
  let v728 : BitVec 1 := Scalar.andi v727 v724
  let v729 : BitVec 32 := Scalar.addi v723 v722
  let v730 : BitVec 32 := Scalar.select v728 v729 v723
  let c512_i32_620 : BitVec 32 := 512#32
  let v731 : BitVec 32 := Scalar.muli v730 c512_i32_620
  let v732 : Index := Scalar.indexCast v731
  let c768_621 : Index := 768#32
  ![v732.toNat, 768]
def k0_dev19 (d0 : Dev nD) : Nat :=
  let c0_i32_641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_640 : BitVec 32 := 1#32
  let v742 : BitVec 32 := Scalar.muli v24 c1_i32_640
  let v743 : BitVec 32 := Scalar.addi c0_i32_641 v742
  v743.toNat
def k0_off13 (d0 : Dev nD) (c0_i32_646 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v752 : BitVec 32 := Scalar.subi v2 c0_i32_646
  let c4_i32_650 : BitVec 32 := 4#32
  let c0_i32_651 : BitVec 32 := 0#32
  let v756 : BitVec 1 := Scalar.cmpi .eq c4_i32_650 c0_i32_651
  let c1_i32_652 : BitVec 32 := 1#32
  let v757 : BitVec 32 := Scalar.select v756 c1_i32_652 c4_i32_650
  let v758 : BitVec 32 := Scalar.remsi v752 v757
  let c0_i32_654 : BitVec 32 := 0#32
  let v760 : BitVec 1 := Scalar.cmpi .slt v758 c0_i32_654
  let c0_i32_655 : BitVec 32 := 0#32
  let v761 : BitVec 1 := Scalar.cmpi .slt v757 c0_i32_655
  let v762 : BitVec 1 := Scalar.xori v760 v761
  let c0_i32_653 : BitVec 32 := 0#32
  let v759 : BitVec 1 := Scalar.cmpi .ne v758 c0_i32_653
  let v763 : BitVec 1 := Scalar.andi v762 v759
  let v764 : BitVec 32 := Scalar.addi v758 v757
  let v765 : BitVec 32 := Scalar.select v763 v764 v758
  let c512_i32_656 : BitVec 32 := 512#32
  let v766 : BitVec 32 := Scalar.muli v765 c512_i32_656
  let v767 : Index := Scalar.indexCast v766
  let c0_657 : Index := 0#32
  ![v767.toNat, 0]
def k0_dev20 (d0 : Dev nD) : Nat :=
  let c0_i32_677 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_676 : BitVec 32 := 1#32
  let v777 : BitVec 32 := Scalar.muli v13 c1_i32_676
  let v778 : BitVec 32 := Scalar.addi c0_i32_677 v777
  v778.toNat
def k0_off14 (d0 : Dev nD) (c0_i32_682 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v787 : BitVec 32 := Scalar.addi v2 c0_i32_682
  let c4_i32_686 : BitVec 32 := 4#32
  let c0_i32_687 : BitVec 32 := 0#32
  let v791 : BitVec 1 := Scalar.cmpi .eq c4_i32_686 c0_i32_687
  let c1_i32_688 : BitVec 32 := 1#32
  let v792 : BitVec 32 := Scalar.select v791 c1_i32_688 c4_i32_686
  let v793 : BitVec 32 := Scalar.remsi v787 v792
  let c0_i32_690 : BitVec 32 := 0#32
  let v795 : BitVec 1 := Scalar.cmpi .slt v793 c0_i32_690
  let c0_i32_691 : BitVec 32 := 0#32
  let v796 : BitVec 1 := Scalar.cmpi .slt v792 c0_i32_691
  let v797 : BitVec 1 := Scalar.xori v795 v796
  let c0_i32_689 : BitVec 32 := 0#32
  let v794 : BitVec 1 := Scalar.cmpi .ne v793 c0_i32_689
  let v798 : BitVec 1 := Scalar.andi v797 v794
  let v799 : BitVec 32 := Scalar.addi v793 v792
  let v800 : BitVec 32 := Scalar.select v798 v799 v793
  let c512_i32_692 : BitVec 32 := 512#32
  let v801 : BitVec 32 := Scalar.muli v800 c512_i32_692
  let v802 : Index := Scalar.indexCast v801
  let c512_693 : Index := 512#32
  ![v802.toNat, 512]
def k0_dev21 (d0 : Dev nD) : Nat :=
  let c0_i32_713 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_712 : BitVec 32 := 1#32
  let v812 : BitVec 32 := Scalar.muli v24 c1_i32_712
  let v813 : BitVec 32 := Scalar.addi c0_i32_713 v812
  v813.toNat
def k0_off15 (d0 : Dev nD) (c0_i32_718 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v822 : BitVec 32 := Scalar.subi v2 c0_i32_718
  let c4_i32_722 : BitVec 32 := 4#32
  let c0_i32_723 : BitVec 32 := 0#32
  let v826 : BitVec 1 := Scalar.cmpi .eq c4_i32_722 c0_i32_723
  let c1_i32_724 : BitVec 32 := 1#32
  let v827 : BitVec 32 := Scalar.select v826 c1_i32_724 c4_i32_722
  let v828 : BitVec 32 := Scalar.remsi v822 v827
  let c0_i32_726 : BitVec 32 := 0#32
  let v830 : BitVec 1 := Scalar.cmpi .slt v828 c0_i32_726
  let c0_i32_727 : BitVec 32 := 0#32
  let v831 : BitVec 1 := Scalar.cmpi .slt v827 c0_i32_727
  let v832 : BitVec 1 := Scalar.xori v830 v831
  let c0_i32_725 : BitVec 32 := 0#32
  let v829 : BitVec 1 := Scalar.cmpi .ne v828 c0_i32_725
  let v833 : BitVec 1 := Scalar.andi v832 v829
  let v834 : BitVec 32 := Scalar.addi v828 v827
  let v835 : BitVec 32 := Scalar.select v833 v834 v828
  let c512_i32_728 : BitVec 32 := 512#32
  let v836 : BitVec 32 := Scalar.muli v835 c512_i32_728
  let v837 : Index := Scalar.indexCast v836
  let c256_729 : Index := 256#32
  ![v837.toNat, 256]
def k0_dev22 (d0 : Dev nD) : Nat :=
  let c0_i32_749 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_748 : BitVec 32 := 1#32
  let v847 : BitVec 32 := Scalar.muli v13 c1_i32_748
  let v848 : BitVec 32 := Scalar.addi c0_i32_749 v847
  v848.toNat
def k0_off16 (d0 : Dev nD) (c0_i32_754 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v857 : BitVec 32 := Scalar.addi v2 c0_i32_754
  let c4_i32_758 : BitVec 32 := 4#32
  let c0_i32_759 : BitVec 32 := 0#32
  let v861 : BitVec 1 := Scalar.cmpi .eq c4_i32_758 c0_i32_759
  let c1_i32_760 : BitVec 32 := 1#32
  let v862 : BitVec 32 := Scalar.select v861 c1_i32_760 c4_i32_758
  let v863 : BitVec 32 := Scalar.remsi v857 v862
  let c0_i32_762 : BitVec 32 := 0#32
  let v865 : BitVec 1 := Scalar.cmpi .slt v863 c0_i32_762
  let c0_i32_763 : BitVec 32 := 0#32
  let v866 : BitVec 1 := Scalar.cmpi .slt v862 c0_i32_763
  let v867 : BitVec 1 := Scalar.xori v865 v866
  let c0_i32_761 : BitVec 32 := 0#32
  let v864 : BitVec 1 := Scalar.cmpi .ne v863 c0_i32_761
  let v868 : BitVec 1 := Scalar.andi v867 v864
  let v869 : BitVec 32 := Scalar.addi v863 v862
  let v870 : BitVec 32 := Scalar.select v868 v869 v863
  let c512_i32_764 : BitVec 32 := 512#32
  let v871 : BitVec 32 := Scalar.muli v870 c512_i32_764
  let v872 : Index := Scalar.indexCast v871
  let c768_765 : Index := 768#32
  ![v872.toNat, 768]
def k0_dev23 (d0 : Dev nD) : Nat :=
  let c0_i32_784 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_783 : BitVec 32 := 1#32
  let v882 : BitVec 32 := Scalar.muli v24 c1_i32_783
  let v883 : BitVec 32 := Scalar.addi c0_i32_784 v882
  v883.toNat
def k0_dev24 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_819 : BitVec 32 := 1#32
  let v917 : BitVec 32 := Scalar.muli v13 c1_i32_819
  let v918 : BitVec 32 := Scalar.addi c0_i32_820 v917
  v918.toNat
def k0_dev25 (d0 : Dev nD) : Nat :=
  let c0_i32_856 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_855 : BitVec 32 := 1#32
  let v952 : BitVec 32 := Scalar.muli v24 c1_i32_855
  let v953 : BitVec 32 := Scalar.addi c0_i32_856 v952
  v953.toNat
def k0_dev26 (d0 : Dev nD) : Nat :=
  let c0_i32_892 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_891 : BitVec 32 := 1#32
  let v987 : BitVec 32 := Scalar.muli v13 c1_i32_891
  let v988 : BitVec 32 := Scalar.addi c0_i32_892 v987
  v988.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2048x1024, .f32⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Clean.lean ====
/-
  The kernel's body, written once for a direction, a half and a hop.

  The ring carries four LANES: a direction (`true`: clockwise, towards `c + 1`; `false`: towards
  `c - 1`) and a half (`0` or `1`: which 256 of the direction's 512 columns). Each lane makes six
  HOPS: three that fold partial sums (`0, 1, 2`) and three that hand the finished chunk on
  (`3, 4, 5`). A STEP `(k, d, s)` receives hop `k - 1` of lane `(d, s)` and sends hop `k`: `0` only
  sends, `6` only receives. The printed body is these twenty-eight steps in order, between a barrier
  and the twenty-four waits on the send semaphores (`body_eq`).
-/
module

public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-- A program of a kernel body. -/
abbrev Body (F : FTy → Type) := Prog (TpuEff nD τ sig (Elt F) Λ₀ .tc)

/-- A scratch buffer of `n` slots, each 512 rows of 512 columns. -/
abbrev Slots (n : ℕ) : Shape := ⟨3, ![n, 512, 512]⟩

/-! ## The operands -/

/-- The operands of the body: the input and output blocks, and per direction the buffer of outgoing
    partial sums, of incoming ones, of finished chunks, and the four arrays of semaphores. -/
structure Args where
  t : Memref sig .tc .vmem S2048x1024 .f32
  out : Memref sig .tc .vmem S2048x1024 .f32
  snd : Bool → Memref sig .tc .vmem (Slots 3) .bf16
  rs : Bool → Memref sig .tc .vmem (Slots 3) .bf16
  ag : Bool → Memref sig .tc .vmem (Slots 4) .bf16
  sndW : ∀ d, (snd d).IsWhole
  rsW : ∀ d, (rs d).IsWhole
  agW : ∀ d, (ag d).IsWhole
  sS : Bool → DmaSems sig S3x2
  sR : Bool → DmaSems sig S3x2
  gS : Bool → DmaSems sig S3x2
  gR : Bool → DmaSems sig S3x2

theorem inb_slot {n : ℕ} (h : Fin n) (s : Fin 2) :
    ∀ a, (![h.val, 0, 256 * s.val] : Fin 3 → ℕ) a + S1x512x256.size a ≤ (Slots n).size a := by
  have := h.isLt; have := s.isLt
  intro a; fin_cases a <;> simp [S1x512x256, Slots] <;> omega

/-- The rectangle of half `s` of slot `h`. -/
abbrev slotRect {n : ℕ} (h : Fin n) (s : Fin 2) : Rect (Slots n) :=
  Rect.unit (s := Slots n) ![h.val, 0, 256 * s.val] S1x512x256.size (inb_slot h s)

/-- Half `s` of slot `h`, as 512 rows of 256 columns. -/
abbrev slot {n : ℕ} (M : Memref sig .tc .vmem (Slots n) .bf16) (h : Fin n) (s : Fin 2) : Memref sig .tc .vmem S512x256 .bf16 :=
  (M.slice (slotRect h s) (fun _ => rfl)).squeeze S512x256 squeezes_S1x512x256_S512x256

theorem packed_slot3 : ∀ (h : Fin 3) (s : Fin 2), (slotRect (n := 3) h s).PackedRows (EltTy.packing .bf16) := by decide
theorem packed_slot4 : ∀ (h : Fin 4) (s : Fin 2), (slotRect (n := 4) h s).PackedRows (EltTy.packing .bf16) := by decide

theorem inb_sem : ∀ (h : Fin 3) (s : Fin 2), ∀ a, (![h.val, s.val] : Fin 2 → ℕ) a + S1x1.size a ≤ S3x2.size a := by decide

/-- Semaphore `(h, s)` of an array. -/
abbrev semAt (A : DmaSems sig S3x2) (h : Fin 3) (s : Fin 2) : DmaSem sig :=
  ((A.slice (Rect.unit (s := S3x2) ![h.val, s.val] S1x1.size (inb_sem h s))).squeeze S_ squeezes_S1x1_S_).sem

/-! ## Hops -/

/-- What hop `k` of lane `(d, s)` reads. -/
def srcM (A : Args) (d : Bool) (s : Fin 2) : Fin 6 → Memref sig .tc .vmem S512x256 .bf16
  | 0 => slot (A.snd d) 0 s
  | 1 => slot (A.snd d) 1 s
  | 2 => slot (A.snd d) 2 s
  | 3 => slot (A.ag d) 0 s
  | 4 => slot (A.ag d) 1 s
  | 5 => slot (A.ag d) 2 s

/-- What hop `k` of lane `(d, s)` writes, on the device it goes to. -/
def dstM (A : Args) (d : Bool) (s : Fin 2) : Fin 6 → Memref sig .tc .vmem S512x256 .bf16
  | 0 => slot (A.rs d) 0 s
  | 1 => slot (A.rs d) 1 s
  | 2 => slot (A.rs d) 2 s
  | 3 => slot (A.ag d) 1 s
  | 4 => slot (A.ag d) 2 s
  | 5 => slot (A.ag d) 3 s

/-- The semaphore of the sender that hop `k` of lane `(d, s)` credits when its source is read. -/
def sendSem (A : Args) (d : Bool) (s : Fin 2) : Fin 6 → DmaSem sig
  | 0 => semAt (A.sS d) 0 s
  | 1 => semAt (A.sS d) 1 s
  | 2 => semAt (A.sS d) 2 s
  | 3 => semAt (A.gS d) 0 s
  | 4 => semAt (A.gS d) 1 s
  | 5 => semAt (A.gS d) 2 s

/-- The semaphore of the receiver that hop `k` of lane `(d, s)` credits when it has landed. -/
def recvSem (A : Args) (d : Bool) (s : Fin 2) : Fin 6 → DmaSem sig
  | 0 => semAt (A.sR d) 0 s
  | 1 => semAt (A.sR d) 1 s
  | 2 => semAt (A.sR d) 2 s
  | 3 => semAt (A.gR d) 0 s
  | 4 => semAt (A.gR d) 1 s
  | 5 => semAt (A.gR d) 2 s

theorem slot3_exact {M : Memref sig .tc .vmem (Slots 3) .bf16} (hM : M.IsWhole) (h : Fin 3) (s : Fin 2) : (slot M h s).view.WordExact :=
  (hM.wordExact_slice rfl _ (packed_slot3 h s).wholeWords).reshape _ _
theorem slot4_exact {M : Memref sig .tc .vmem (Slots 4) .bf16} (hM : M.IsWhole) (h : Fin 4) (s : Fin 2) : (slot M h s).view.WordExact :=
  (hM.wordExact_slice rfl _ (packed_slot4 h s).wholeWords).reshape _ _

theorem src_exact (A : Args) (d : Bool) (s : Fin 2) : ∀ k, (srcM A d s k).view.WordExact
  | 0 => slot3_exact (A.sndW d) 0 s
  | 1 => slot3_exact (A.sndW d) 1 s
  | 2 => slot3_exact (A.sndW d) 2 s
  | 3 => slot4_exact (A.agW d) 0 s
  | 4 => slot4_exact (A.agW d) 1 s
  | 5 => slot4_exact (A.agW d) 2 s

theorem dst_exact (A : Args) (d : Bool) (s : Fin 2) : ∀ k, (dstM A d s k).view.WordExact
  | 0 => slot3_exact (A.rsW d) 0 s
  | 1 => slot3_exact (A.rsW d) 1 s
  | 2 => slot3_exact (A.rsW d) 2 s
  | 3 => slot4_exact (A.agW d) 1 s
  | 4 => slot4_exact (A.agW d) 2 s
  | 5 => slot4_exact (A.agW d) 3 s

/-! ## The printed tables: which device a hop goes to, which block of rows is read or written -/

/-- The device hop `k` of lane `(d, s)` goes to, as the program computes it. -/
def devOf (c : Dev nD) : Bool → Fin 2 → Fin 6 → Dev nD
  | true, 0, 0 => ⟨k0_dev3 c, k0_dev3_lt c⟩
  | false, 0, 0 => ⟨k0_dev4 c, k0_dev4_lt c⟩
  | true, 1, 0 => ⟨k0_dev5 c, k0_dev5_lt c⟩
  | false, 1, 0 => ⟨k0_dev6 c, k0_dev6_lt c⟩
  | true, 0, 1 => ⟨k0_dev7 c, k0_dev7_lt c⟩
  | false, 0, 1 => ⟨k0_dev8 c, k0_dev8_lt c⟩
  | true, 1, 1 => ⟨k0_dev9 c, k0_dev9_lt c⟩
  | false, 1, 1 => ⟨k0_dev10 c, k0_dev10_lt c⟩
  | true, 0, 2 => ⟨k0_dev11 c, k0_dev11_lt c⟩
  | false, 0, 2 => ⟨k0_dev12 c, k0_dev12_lt c⟩
  | true, 1, 2 => ⟨k0_dev13 c, k0_dev13_lt c⟩
  | false, 1, 2 => ⟨k0_dev14 c, k0_dev14_lt c⟩
  | true, 0, 3 => ⟨k0_dev15 c, k0_dev15_lt c⟩
  | false, 0, 3 => ⟨k0_dev16 c, k0_dev16_lt c⟩
  | true, 1, 3 => ⟨k0_dev17 c, k0_dev17_lt c⟩
  | false, 1, 3 => ⟨k0_dev18 c, k0_dev18_lt c⟩
  | true, 0, 4 => ⟨k0_dev19 c, k0_dev19_lt c⟩
  | false, 0, 4 => ⟨k0_dev20 c, k0_dev20_lt c⟩
  | true, 1, 4 => ⟨k0_dev21 c, k0_dev21_lt c⟩
  | false, 1, 4 => ⟨k0_dev22 c, k0_dev22_lt c⟩
  | true, 0, 5 => ⟨k0_dev23 c, k0_dev23_lt c⟩
  | false, 0, 5 => ⟨k0_dev24 c, k0_dev24_lt c⟩
  | true, 1, 5 => ⟨k0_dev25 c, k0_dev25_lt c⟩
  | false, 1, 5 => ⟨k0_dev26 c, k0_dev26_lt c⟩

/-- Where the block of the input begins that lane `(d, s)` reads before hop `0`, -/
def offFirst (c : Dev nD) : Bool → Fin 2 → Fin 2 → ℕ
  | true, 0 => k0_off1 c
  | false, 0 => k0_off2 c
  | true, 1 => k0_off3 c
  | false, 1 => k0_off4 c

/-- before hop `h + 1`, -/
def offFold (c : Dev nD) (h : Fin 3) : Bool → Fin 2 → Fin 2 → ℕ
  | true, 0 => k0_off5 c (BitVec.ofNat 32 h.val)
  | false, 0 => k0_off6 c (BitVec.ofNat 32 h.val)
  | true, 1 => k0_off7 c (BitVec.ofNat 32 h.val)
  | false, 1 => k0_off8 c (BitVec.ofNat 32 h.val)

/-- and of the output that it writes with the chunk it finishes itself, -/
def offTurn (c : Dev nD) : Bool → Fin 2 → Fin 2 → ℕ
  | true, 0 => k0_off9 c
  | false, 0 => k0_off10 c
  | true, 1 => k0_off11 c
  | false, 1 => k0_off12 c

/-- and with the chunk hop `h + 3` brings. -/
def offPass (c : Dev nD) (h : Fin 3) : Bool → Fin 2 → Fin 2 → ℕ
  | true, 0 => k0_off13 c (BitVec.ofNat 32 h.val)
  | false, 0 => k0_off14 c (BitVec.ofNat 32 h.val)
  | true, 1 => k0_off15 c (BitVec.ofNat 32 h.val)
  | false, 1 => k0_off16 c (BitVec.ofNat 32 h.val)

/-- A block of 512 rows and 256 columns lies inside the array. -/
abbrev InB (off : Fin 2 → ℕ) : Prop := ∀ a, off a + S512x256.size a ≤ S2048x1024.size a

theorem offFirst_inb (c : Dev nD) : ∀ d s, InB (offFirst c d s)
  | true, 0 => k0_off1_inb c
  | false, 0 => k0_off2_inb c
  | true, 1 => k0_off3_inb c
  | false, 1 => k0_off4_inb c

theorem offFold_inb (c : Dev nD) (h : Fin 3) : ∀ d s, InB (offFold c h d s)
  | true, 0 => k0_off5_inb c h
  | false, 0 => k0_off6_inb c h
  | true, 1 => k0_off7_inb c h
  | false, 1 => k0_off8_inb c h

theorem offTurn_inb (c : Dev nD) : ∀ d s, InB (offTurn c d s)
  | true, 0 => k0_off9_inb c
  | false, 0 => k0_off10_inb c
  | true, 1 => k0_off11_inb c
  | false, 1 => k0_off12_inb c

theorem offPass_inb (c : Dev nD) (h : Fin 3) : ∀ d s, InB (offPass c h d s)
  | true, 0 => k0_off13_inb c h
  | false, 0 => k0_off14_inb c h
  | true, 1 => k0_off15_inb c h
  | false, 1 => k0_off16_inb c h

/-- A block of 512 rows and 256 columns. -/
abbrev blockRect (off : Fin 2 → ℕ) (hi : InB off) : Rect S2048x1024 :=
  Rect.unit (s := S2048x1024) off S512x256.size hi

/-! ## The operations -/

/-- Read a block of the input. -/
def getT (A : Args) (off : Fin 2 → ℕ) (hi : InB off) : Body F (Vec F S512x256 .f32) :=
  Prog.lift (.load A.t (blockRect off hi).toLoadRect (View.loadsAt_vmem h_S512x256))

/-- Write a block of the output (after reading it to no use). -/
def putOut (A : Args) (off : Fin 2 → ℕ) (hi : InB off) (w : FVec F S512x256 .f32) : Body F PUnit := do
  let _ : Vec F S512x256 .f32 ← Prog.lift (.load A.out (blockRect off hi).toLoadRect (View.loadsAt_vmem h_S512x256))
  Prog.lift (.store A.out (blockRect off hi) w Finset.univ (View.stores_vmem_bits_univ h_S512x256 rfl) (.inl rfl))

/-- Read half `s` of slot `h`. -/
def getSlot {n : ℕ} (M : Memref sig .tc .vmem (Slots n) .bf16) (h : Fin n) (s : Fin 2) : Body F (Vec F S1x512x256 .bf16) :=
  Prog.lift (.load M (slotRect h s).toLoadRect (View.loadsAt_vmem h_S1x512x256))

/-- Write half `s` of slot `h` (after reading it to no use). -/
def putSlot {n : ℕ} (M : Memref sig .tc .vmem (Slots n) .bf16) (hM : M.IsWhole) (h : Fin n) (s : Fin 2)
    (hp : (slotRect h s).PackedRows (EltTy.packing .bf16)) (w : FVec F S1x512x256 .bf16) : Body F PUnit := do
  let _ : Vec F S1x512x256 .bf16 ← Prog.lift (.load M (slotRect h s).toLoadRect (View.loadsAt_vmem h_S1x512x256))
  Prog.lift (.store M (slotRect h s) w Finset.univ (View.stores_vmem h_S1x512x256 (hM.storeExact_slice rfl _ hp) (fun _ => rfl)) (.inl rfl))

/-- Start hop `k` of lane `(d, s)`. -/
def sendHop (A : Args) (c : Dev nD) (d : Bool) (s : Fin 2) (k : Fin 6) : Body F PUnit :=
  Prog.lift (.enqueueDma (srcM A d s k) (.remote (Dev.tc (devOf c d s k)) (dstM A d s k) (.dma (sendSem A d s k)))
    (.dma (recvSem A d s k)) (src_exact A d s k) (dst_exact A d s k) ⟨⟨rfl, Or.inl rfl⟩, trivial⟩)

/-- Wait until hop `k` of lane `(d, s)` has landed here. -/
def recvHop (A : Args) (d : Bool) (s : Fin 2) (k : Fin 6) : Body F PUnit :=
  Prog.lift (.waitDma2 (recvSem A d s k) (srcM A d s k) (dstM A d s k) (src_exact A d s k) (dst_exact A d s k))

/-- Wait until the source of hop `k` of lane `(d, s)` has been read. -/
def drainHop (A : Args) (d : Bool) (s : Fin 2) (k : Fin 6) : Body F PUnit :=
  Prog.lift (.waitDma2 (sendSem A d s k) (dstM A d s k) (srcM A d s k) (dst_exact A d s k) (src_exact A d s k))

/-! ## The steps -/

/-- The device's own chunk starts round the ring. -/
def stepFirst (A : Args) (c : Dev nD) (d : Bool) (s : Fin 2) : Body F PUnit := do
  let x ← getT A (offFirst c d s) (offFirst_inb c d s)
  putSlot (A.snd d) (A.sndW d) 0 s (packed_slot3 0 s) (k0_pay1 x)
  sendHop A c d s 0

/-- A partial sum arrives, the device's own chunk is added, the sum goes on. -/
def stepFold (A : Args) (c : Dev nD) (d : Bool) (s : Fin 2) (k : Fin 6) (h : Fin 3) (h' : Fin 3) (k' : Fin 6) : Body F PUnit := do
  recvHop A d s k
  let v ← getSlot (A.rs d) h s
  let x ← getT A (offFold c h d s) (offFold_inb c h d s)
  putSlot (A.snd d) (A.sndW d) h' s (packed_slot3 h' s) (k0_pay8 v x)
  sendHop A c d s k'

/-- The last partial sum arrives: the chunk is finished, goes round again and into the output. -/
def stepTurn (A : Args) (c : Dev nD) (d : Bool) (s : Fin 2) : Body F PUnit := do
  recvHop A d s 2
  let v ← getSlot (A.rs d) 2 s
  let x ← getT A (offFold c 2 d s) (offFold_inb c 2 d s)
  putSlot (A.ag d) (A.agW d) 0 s (packed_slot4 0 s) (k0_pay22 v x)
  sendHop A c d s 3
  putOut A (offTurn c d s) (offTurn_inb c d s) (k0_pay21 v x)

/-- A finished chunk arrives, goes on and into the output. -/
def stepPass (A : Args) (c : Dev nD) (d : Bool) (s : Fin 2) (k : Fin 6) (h : Fin 3) (g : Fin 4) (k' : Fin 6) : Body F PUnit := do
  recvHop A d s k
  sendHop A c d s k'
  let v ← getSlot (A.ag d) g s
  putOut A (offPass c h d s) (offPass_inb c h d s) (k0_pay27 v)

/-- The last finished chunk arrives and goes into the output. -/
def stepLast (A : Args) (c : Dev nD) (d : Bool) (s : Fin 2) : Body F PUnit := do
  recvHop A d s 5
  let v ← getSlot (A.ag d) 3 s
  putOut A (offPass c 2 d s) (offPass_inb c 2 d s) (k0_pay27 v)

/-- Step `k` of lane `(d, s)`. -/
def step (A : Args) (c : Dev nD) : Fin 7 × Bool × Fin 2 → Body F PUnit
  | (0, d, s) => stepFirst A c d s
  | (1, d, s) => stepFold A c d s 0 0 1 1
  | (2, d, s) => stepFold A c d s 1 1 2 2
  | (3, d, s) => stepTurn A c d s
  | (4, d, s) => stepPass A c d s 3 0 1 4
  | (5, d, s) => stepPass A c d s 4 1 2 5
  | (6, d, s) => stepLast A c d s

/-- The lanes in the order a hop visits them, -/
abbrev lanes : List (Bool × Fin 2) := [(true, 0), (false, 0), (true, 1), (false, 1)]
/-- and in the order the send semaphores are waited on. -/
abbrev lanes' : List (Bool × Fin 2) := [(true, 0), (true, 1), (false, 0), (false, 1)]

/-- Every step, in order. -/
def steps : List (Fin 7 × Bool × Fin 2) :=
  [0, 1, 2, 3, 4, 5, 6].flatMap fun k => lanes.map fun l => (k, l)
/-- Every wait on a send semaphore, in order. -/
def drains : List (Fin 6 × Bool × Fin 2) :=
  [0, 1, 2, 3, 4, 5].flatMap fun k => lanes'.map fun l => (k, l)

/-- One program after another. -/
def seqB {α : Type} (p : α → Body F PUnit) : List α → Body F PUnit → Body F PUnit
  | [], e => e
  | a :: l, e => p a >>= fun _ => seqB p l e

/-- The barrier: one signal to each neighbour, then a wait for theirs. -/
def meet (c : Dev nD) (e : Body F PUnit) : Body F PUnit := do
  semSignalWord (⟨k0_dev1 c, k0_dev1_lt c⟩ : Dev nD) (SemArray.scalar (sig.barrier 0 rfl) : Sems sig S_).sem 1#32
  semSignalWord (⟨k0_dev2 c, k0_dev2_lt c⟩ : Dev nD) (SemArray.scalar (sig.barrier 0 rfl) : Sems sig S_).sem 1#32
  semWaitWord (SemArray.scalar (sig.barrier 0 rfl) : Sems sig S_).sem 2#32
  e

/-- The body on device `c`. -/
def clean (A : Args) (c : Dev nD) : Body F PUnit :=
  meet c (seqB (step A c) steps (seqB (fun i => drainHop A i.2.1 i.2.2 i.1) drains (pure ⟨⟩)))

set_option maxRecDepth 65536 in
set_option maxHeartbeats 4000000 in
/-- The printed body is that program, on the device it runs on. -/
theorem body_eq (t out : Memref sig .tc .vmem S2048x1024 .f32) (ht : t.IsWhole) (ho : out.IsWhole)
    (s₁ s₂ r₁ r₂ : Memref sig .tc .vmem S3x512x512 .bf16) (g₁ g₂ : Memref sig .tc .vmem S4x512x512 .bf16)
    (hs₁ : s₁.IsWhole) (hs₂ : s₂.IsWhole) (hr₁ : r₁.IsWhole) (hr₂ : r₂.IsWhole) (hg₁ : g₁.IsWhole) (hg₂ : g₂.IsWhole)
    (a₁ a₂ a₃ a₄ b₁ b₂ b₃ b₄ : DmaSems sig S3x2) :
    cc0_body (F := F) t ht out ho s₁ hs₁ s₂ hs₂ r₁ hr₁ r₂ hr₂ g₁ hg₁ g₂ hg₂ a₁ a₂ a₃ a₄ b₁ b₂ b₃ b₄
      = Prog.lift .deviceId >>= fun c => clean ⟨t, out, Bool.rec s₂ s₁, Bool.rec r₂ r₁, Bool.rec g₂ g₁,
          Bool.rec hs₂ hs₁, Bool.rec hr₂ hr₁, Bool.rec hg₂ hg₁, Bool.rec b₁ a₁, Bool.rec b₂ a₂, Bool.rec b₃ a₃, Bool.rec b₄ a₄⟩ c := by
  rfl

end Cert.Proof

end
-- ==== Proof.Cells.lean ====
/-
  The protocol between the devices: the ring, what every hop carries, and for every semaphore who
  waits on it, who adds to it, how much, in which round, and what the owner is handed.

  Every device owns a barrier semaphore and, for each of the 24 hops of the four lanes, a send and a
  receive semaphore. Each is used for exactly one round.
  * BARRIER of `c`: one unit from `nxt c` (duty `true`), handing `c` the twelve places on `nxt c`
    that `c`'s clockwise hops write, and one from `prv c` (duty `false`), handing the twelve places
    on `prv c` that `c`'s counterclockwise hops write. `c` waits for two units before its first hop.
  * RECEIVE semaphore of hop `k` of lane `(d, s)` of `c`: credited by the landing of that hop of the
    device one step behind in direction `d`; hands `c` the landing place with the contents `sent`.
  * SEND semaphore of the same hop: credited when `c`'s own hop has been read; hands `c` the source
    back, in full for hops `0` to `3` and by half for the two whose source is read meanwhile.
  A device waits on the receive semaphore of hop `k` when it only owes hops after `k`; that order is
  the assignment of levels `lv`.
-/
module

public import proofs.«01_k».proof.Defs
public import Idealize.ShloMosaic.Lib.Pipeline.Launch
public import Idealize.ShloMosaic.Lib.Tactic
public import Idealize.ShloMosaic.Lib.Rounds
public import Idealize.ShloMosaic.Lib.Pipeline.Value
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Clean

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The staging semaphores' rounds and the protocol's, side by side. -/
abbrev UU : Type := URounds (GSem nD τ sig) Unit × URounds (GSem nD τ sig) Bool

local notation "𝕄" => MT nD τ sig Unit (Elt F) ℕ UU ℕ

/-- Where the staging semaphores' rounds live, -/
def EP : Emb (URounds (GSem nD τ sig) Unit) (MT nD τ sig Unit (Elt F) ℕ UU ℕ) :=
  (Emb.inl : Emb (URounds (GSem nD τ sig) Unit) UU).trans
    (uEmb (nD := nD) (sig := sig) (Ix := Unit) (Val := Elt F) (Name := ℕ) (U := UU) (Lvl := ℕ)).toEmb

/-- and the protocol's. -/
def ER : Emb (URounds (GSem nD τ sig) Bool) (MT nD τ sig Unit (Elt F) ℕ UU ℕ) :=
  (Emb.inr : Emb (URounds (GSem nD τ sig) Bool) UU).trans
    (uEmb (nD := nD) (sig := sig) (Ix := Unit) (Val := Elt F) (Name := ℕ) (U := UU) (Lvl := ℕ)).toEmb

instance EP_in : (EP : Emb (URounds (GSem nD τ sig) Unit) 𝕄).LandsIn (upEmb : UEmb _ 𝕄) := by unfold EP; infer_instance
instance ER_in : (ER : Emb (URounds (GSem nD τ sig) Bool) 𝕄).LandsIn (upEmb : UEmb _ 𝕄) := by unfold ER; infer_instance

/-! ## The ring -/

set_option backward.proofsInPublic true in
/-- The device after `c`, -/
def nxt (c : Dev nD) : Dev nD := ⟨(c.val + 1) % 4, Nat.mod_lt _ (by decide)⟩
set_option backward.proofsInPublic true in
/-- and before it. -/
def prv (c : Dev nD) : Dev nD := ⟨(c.val + 3) % 4, Nat.mod_lt _ (by decide)⟩

/-- The device a hop in direction `d` goes to, -/
def ahead (d : Bool) (c : Dev nD) : Dev nD := if d then nxt c else prv c
/-- and comes from. -/
def behind (d : Bool) (c : Dev nD) : Dev nD := if d then prv c else nxt c

theorem ahead_behind (d : Bool) (c : Dev nD) : ahead d (behind d c) = c := by revert d c; decide
theorem behind_ahead (d : Bool) (c : Dev nD) : behind d (ahead d c) = c := by revert d c; decide

/-- One step of the ring, as a permutation of the devices. -/
def turnRing (d : Bool) : Dev nD ≃ Dev nD := ⟨ahead d, behind d, behind_ahead d, ahead_behind d⟩

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide

set_option maxRecDepth 4000 in
/-- Every hop the program sends goes one step ahead in its direction. -/
theorem devOf_eq (c : Dev nD) (d : Bool) (s : Fin 2) (k : Fin 6) : devOf c d s k = ahead d c := by
  revert c d s k; decide

/-! ## The operands and the semaphores -/

/-- The kernel's operands. -/
@[reducible] def K : Args where
  t := Memref.whole cc0_stg0_0
  out := Memref.whole cc0_stg1_0
  snd := Bool.rec (Memref.whole cc0_scratch1) (Memref.whole cc0_scratch0)
  rs := Bool.rec (Memref.whole cc0_scratch3) (Memref.whole cc0_scratch2)
  ag := Bool.rec (Memref.whole cc0_scratch5) (Memref.whole cc0_scratch4)
  sndW := Bool.rec (Memref.isWhole_whole _) (Memref.isWhole_whole _)
  rsW := Bool.rec (Memref.isWhole_whole _) (Memref.isWhole_whole _)
  agW := Bool.rec (Memref.isWhole_whole _) (Memref.isWhole_whole _)
  sS := Bool.rec cc0_scratch10 cc0_scratch6
  sR := Bool.rec cc0_scratch11 cc0_scratch7
  gS := Bool.rec cc0_scratch12 cc0_scratch8
  gR := Bool.rec cc0_scratch13 cc0_scratch9

/-- A hop of a lane: its number, direction and half. -/
abbrev Hop := Fin 6 × Bool × Fin 2
/-- A step of a lane, likewise. -/
abbrev Step := Fin 7 × Bool × Fin 2

/-- The source, the landing place and the two semaphores of a hop. -/
abbrev src (i : Hop) : Memref sig .tc .vmem S512x256 .bf16 := srcM K i.2.1 i.2.2 i.1
abbrev dst (i : Hop) : Memref sig .tc .vmem S512x256 .bf16 := dstM K i.2.1 i.2.2 i.1
abbrev sndSem (i : Hop) : DmaSem sig := sendSem K i.2.1 i.2.2 i.1
abbrev rcvSem (i : Hop) : DmaSem sig := recvSem K i.2.1 i.2.2 i.1
/-- The barrier semaphore. -/
abbrev barS : Sem sig := (SemArray.scalar (sig.barrier 0 rfl) : Sems sig S_).sem

abbrev barCell (c : Dev nD) : GSem nD τ sig := ((c : Thread nD τ), .reg barS)
abbrev sndCell (c : Dev nD) (i : Hop) : GSem nD τ sig := ((c : Thread nD τ), .dma (sndSem i))
abbrev rcvCell (c : Dev nD) (i : Hop) : GSem nD τ sig := ((c : Thread nD τ), .dma (rcvSem i))

set_option backward.proofsInPublic true in
/-- Which hop a semaphore belongs to, and whether as its receive semaphore. -/
def decode (q : DmaSem sig) : Option (Bool × Hop) :=
  if q.val < 2 then none
  else some (decide ((q.val - 2) / 6 % 2 = 1), ⟨(q.val - 2) % 6 / 2 + 3 * ((q.val - 2) / 12 % 2), by omega⟩,
    decide ((q.val - 2) / 24 = 0), ⟨(q.val - 2) % 2, by omega⟩)

set_option maxRecDepth 4000 in
theorem decode_snd (i : Hop) : decode (sndSem i) = some (false, i) := by revert i; decide
set_option maxRecDepth 4000 in
theorem decode_rcv (i : Hop) : decode (rcvSem i) = some (true, i) := by revert i; decide

/-- The units one hop credits. -/
abbrev N : ℕ := (dst (0, true, 0)).view.dmaCredit
theorem N_pos : 0 < N := View.dmaCredit_pos _ (by decide)
set_option maxRecDepth 4000 in
theorem credit_dst (i : Hop) : (dst i).view.dmaCredit = N := by
  obtain ⟨k, d, s⟩ := i; revert d s; fin_cases k <;> decide
set_option maxRecDepth 4000 in
theorem credit_src (i : Hop) : (src i).view.dmaCredit = N := by
  obtain ⟨k, d, s⟩ := i; revert d s; fin_cases k <;> decide

/-! ## What the hops carry -/

/-- The block of 512 rows and 256 columns of `f` that begins at `off`. -/
def blk (f : Vec F S2048x1024 .f32) (off : Fin 2 → ℕ) (hi : InB off) : Vec F S512x256 .f32 :=
  fun x => f ((blockRect off hi).emb x)

/-- 512 rows of 256 columns as a slot of one, and back. -/
def asSlot (v : Vec F S512x256 .bf16) : Vec F S1x512x256 .bf16 := shapeCast S1x512x256 v shapeCasts_S512x256_S1x512x256
def asRows (v : Vec F S1x512x256 .bf16) : Vec F S512x256 .bf16 := shapeCast S512x256 v shapeCasts_S1x512x256_S512x256

omit [FloatOps F] in
theorem asSlot_asRows (v : Vec F S1x512x256 .bf16) : asSlot (asRows v) = v := shapeCast_shapeCast v _ _
omit [FloatOps F] in
theorem asRows_asSlot (v : Vec F S512x256 .bf16) : asRows (asSlot v) = v := shapeCast_shapeCast v _ _

variable (T : Dev nD → Vec F S2048x1024 .f32)

/-- The sum hop `0` of lane `(d, s)` of device `c` carries: `c`'s own chunk; -/
def sum0 (d : Bool) (s : Fin 2) (c : Dev nD) : Vec F S512x256 .bf16 :=
  asRows (k0_pay1 (blk (T c) (offFirst c d s) (offFirst_inb c d s)))
/-- the sum hop `1` carries: what hop `0` brought and `c`'s own chunk; -/
def sum1 (d : Bool) (s : Fin 2) (c : Dev nD) : Vec F S512x256 .bf16 :=
  asRows (k0_pay8 (asSlot (sum0 T d s (behind d c))) (blk (T c) (offFold c 0 d s) (offFold_inb c 0 d s)))
/-- the sum hop `2` carries; -/
def sum2 (d : Bool) (s : Fin 2) (c : Dev nD) : Vec F S512x256 .bf16 :=
  asRows (k0_pay8 (asSlot (sum1 T d s (behind d c))) (blk (T c) (offFold c 1 d s) (offFold_inb c 1 d s)))
/-- the finished chunk hop `3` carries; -/
def fin0 (d : Bool) (s : Fin 2) (c : Dev nD) : Vec F S512x256 .bf16 :=
  asRows (k0_pay22 (asSlot (sum2 T d s (behind d c))) (blk (T c) (offFold c 2 d s) (offFold_inb c 2 d s)))

/-- What hop `k` of lane `(d, s)` of device `c` carries. -/
def sent (c : Dev nD) : Hop → Vec F S512x256 .bf16
  | (0, d, s) => sum0 T d s c
  | (1, d, s) => sum1 T d s c
  | (2, d, s) => sum2 T d s c
  | (3, d, s) => fin0 T d s c
  | (4, d, s) => fin0 T d s (behind d c)
  | (5, d, s) => fin0 T d s (behind d (behind d c))

/-- What hop `i` brings to device `c`. -/
abbrev brought (c : Dev nD) (i : Hop) : Vec F S512x256 .bf16 := sent T (behind i.2.1 c) i

/-- Where lane `(d, s)` of device `c` writes the output: first the chunk it finishes, then the three it is brought, -/
def outOff (c : Dev nD) (d : Bool) (s : Fin 2) : Fin 4 → Fin 2 → ℕ
  | 0 => offTurn c d s
  | 1 => offPass c 0 d s
  | 2 => offPass c 1 d s
  | 3 => offPass c 2 d s

theorem outOff_inb (c : Dev nD) (d : Bool) (s : Fin 2) : ∀ j, InB (outOff c d s j)
  | 0 => offTurn_inb c d s
  | 1 => offPass_inb c 0 d s
  | 2 => offPass_inb c 1 d s
  | 3 => offPass_inb c 2 d s

/-- and what it writes there. -/
def outVal (c : Dev nD) (d : Bool) (s : Fin 2) : Fin 4 → Vec F S512x256 .f32
  | 0 => k0_pay21 (asSlot (sum2 T d s (behind d c))) (blk (T c) (offFold c 2 d s) (offFold_inb c 2 d s))
  | 1 => k0_pay27 (asSlot (brought T c (3, d, s)))
  | 2 => k0_pay27 (asSlot (brought T c (4, d, s)))
  | 3 => k0_pay27 (asSlot (brought T c (5, d, s)))

/-! ## Places -/

/-- Place `m` on device `c`, at the share `q`, reads `Y`. -/
def holds (c : Dev nD) (m : Memref sig .tc .vmem S512x256 .bf16) (q : PosShare TreeShare) (Y : Vec F S512x256 .bf16) : sProp 𝕄 :=
  iprop(∃ f, ⌜m.view.read (Elt F) f = Y⌝ ∗ (m.view.loc (c : Thread nD τ) ↦[m.view.set]{q} f))

/-- Place `m` on device `c`, at the share `q`, whatever it reads. -/
def room (c : Dev nD) (m : Memref sig .tc .vmem S512x256 .bf16) (q : PosShare TreeShare) : sProp 𝕄 :=
  iprop(∃ f, (m.view.loc (c : Thread nD τ) ↦[m.view.set]{q} f))

omit [FloatOps F] in
instance holds_storable (c : Dev nD) (m) (q) (Y) : BI.Storable (upEmb : UEmb _ 𝕄) (holds (F := F) c m q Y) := by unfold holds; infer_instance
omit [FloatOps F] in
instance room_storable (c : Dev nD) (m) (q) : BI.Storable (upEmb : UEmb _ 𝕄) (room (F := F) c m q) := by unfold room; infer_instance

omit [FloatOps F] in
theorem holds_room (c : Dev nD) (m) (q) (Y : Vec F S512x256 .bf16) : holds c m q Y ⊢ room c m q := by
  unfold holds room
  iintro ⟨%f, -, H⟩; iexists f; iexact H

/-- The share of the source that a hop takes: half for the two hops whose source is read meanwhile. -/
def hopShare (i : Hop) : PosShare TreeShare := if i.1.val ≤ 3 then fullShare else PosShare.left fullShare

/-! ## The schedule -/

/-- What the barrier's duty `d` hands `c`: the landing places of `c`'s hops in direction `d`. -/
def barPay (c : Dev nD) (d : Bool) : sProp 𝕄 :=
  bigSep (Finset.univ : Finset (Fin 6 × Fin 2)) fun p => room (ahead d c) (dst (p.1, d, p.2)) fullShare

instance barPay_storable (c : Dev nD) (d : Bool) : BI.Storable (upEmb : UEmb _ 𝕄) (barPay (F := F) c d) := by unfold barPay; infer_instance

/-- What the semaphore of a hop hands `c`. -/
def hopPay (c : Dev nD) : Option (Bool × Hop) → sProp 𝕄
  | some (true, i) => holds c (dst i) fullShare (brought T c i)
  | some (false, i) => room c (src i) (hopShare i)
  | none => iprop(emp)

instance hopPay_storable (c : Dev nD) (o) : BI.Storable (upEmb : UEmb _ 𝕄) (hopPay (F := F) T c o) := by
  unfold hopPay; (repeat' split) <;> infer_instance

/-- The duties of a semaphore in its one round. -/
def dutiesOf : SemLoc sig → Finset Bool
  | .reg b => if b = barS then Finset.univ else ∅
  | .dma q => if (decode q).isSome then {true} else ∅

/-- The units of one duty, -/
def amountOf : SemLoc sig → ℕ
  | .reg _ => 1
  | .dma _ => N

/-- and what they hand over. -/
def payOf (c : Dev nD) (d : Bool) : SemLoc sig → sProp 𝕄
  | .reg _ => barPay c d
  | .dma q => hopPay T c (decode q)

instance payOf_storable (c : Dev nD) (d) (q) : BI.Storable (upEmb : UEmb _ 𝕄) (payOf (F := F) T c d q) := by
  unfold payOf; split <;> infer_instance

/-- The whole protocol. -/
def Rd : Rounds.Schedule (GSem nD τ sig) Bool 𝕄 where
  duties g r := if r = 0 ∧ g.1.2 = .tc then dutiesOf g.2 else ∅
  unitless _ := False
  amount g _ _ := amountOf g.2
  payload g _ d := payOf T g.1.1 d g.2
  amount_pos g _ _ _ := by
    unfold amountOf; split
    · exact Nat.one_pos
    · exact N_pos

instance Rd_storable (g : GSem nD τ sig) (r : ℕ) (d : Bool) : BI.Storable (upEmb : UEmb _ 𝕄) ((Rd (F := F) T).payload g r d) := by
  dsimp only [Rd]; infer_instance

section Facts
variable (c : Dev nD) (i : Hop)

theorem duties_bar : (Rd (F := F) T).duties (barCell c) 0 = Finset.univ := by
  dsimp only [Rd]; rw [if_pos ⟨rfl, rfl⟩]; dsimp only [dutiesOf]; exact if_pos rfl
theorem duties_snd : (Rd (F := F) T).duties (sndCell c i) 0 = {true} := by
  dsimp only [Rd]; rw [if_pos ⟨rfl, rfl⟩]; dsimp only [dutiesOf]; rw [decode_snd]; rfl
theorem duties_rcv : (Rd (F := F) T).duties (rcvCell c i) 0 = {true} := by
  dsimp only [Rd]; rw [if_pos ⟨rfl, rfl⟩]; dsimp only [dutiesOf]; rw [decode_rcv]; rfl
theorem duties_later (g : GSem nD τ sig) : ∀ r, 1 ≤ r → (Rd (F := F) T).duties g r = ∅ :=
  fun r hr => by dsimp only [Rd]; rw [if_neg fun h => by omega]

theorem expect_bar : (Rd (F := F) T).expect (barCell c) 0 = 2 := by
  unfold Schedule.expect Schedule.amountOf; rw [duties_bar]; rfl
theorem expect_snd : (Rd (F := F) T).expect (sndCell c i) 0 = N := by
  unfold Schedule.expect Schedule.amountOf; rw [duties_snd, Finset.sum_singleton]; rfl
theorem expect_rcv : (Rd (F := F) T).expect (rcvCell c i) 0 = N := by
  unfold Schedule.expect Schedule.amountOf; rw [duties_rcv, Finset.sum_singleton]; rfl

theorem pay_snd (d : Bool) : (Rd (F := F) T).payload (sndCell c i) 0 d = room c (src i) (hopShare i) := by
  dsimp only [Rd, payOf]; rw [decode_snd]; rfl
theorem pay_rcv (d : Bool) : (Rd (F := F) T).payload (rcvCell c i) 0 d = holds c (dst i) fullShare (brought T c i) := by
  dsimp only [Rd, payOf]; rw [decode_rcv]; rfl

theorem rest_bar : bigSep ((Rd (F := F) T).duties (barCell c) 0 \ ∅) (fun d => (Rd (F := F) T).payload (barCell c) 0 d)
    = bigSep Finset.univ fun d => barPay (F := F) c d := by
  rw [Finset.sdiff_empty, duties_bar]; rfl
theorem rest_snd : bigSep ((Rd (F := F) T).duties (sndCell c i) 0 \ ∅) (fun d => (Rd (F := F) T).payload (sndCell c i) 0 d)
    = room c (src i) (hopShare i) := by
  rw [Finset.sdiff_empty, duties_snd, bigSep_singleton, pay_snd]
theorem rest_rcv : bigSep ((Rd (F := F) T).duties (rcvCell c i) 0 \ ∅) (fun d => (Rd (F := F) T).payload (rcvCell c i) 0 d)
    = holds c (dst i) fullShare (brought T c i) := by
  rw [Finset.sdiff_empty, duties_rcv, bigSep_singleton, pay_rcv]

end Facts

/-! ## What a device owes, and the levels -/

/-- The hop that step `k` of a lane sends (none at the last step), -/
def sends : Step → Option Hop
  | (k, l) => if h : k.val < 6 then some (⟨k.val, h⟩, l) else none
/-- and the one it receives (none at the first). -/
def receives : Step → Option Hop
  | (k, l) => if h : 0 < k.val then some (⟨k.val - 1, by omega⟩, l) else none

/-- The credit that the hop sent at a step owes its receiver. -/
def owesHop (c : Dev nD) : Option Hop → CellTallies nD τ sig Unit
  | some i => tallyAt (rcvCell (ahead i.2.1 c) i) () N
  | none => 0

/-- What `c` owes before a list of steps. -/
def owed (c : Dev nD) : List Step → CellTallies nD τ sig Unit
  | [] => 0
  | a :: l => owed c l + owesHop c (sends a)

/-- What `c` owes at launch, and once the signal to `prv c` is out. -/
def owed₁ (c : Dev nD) : CellTallies nD τ sig Unit := owed c steps + tallyAt (barCell (nxt c)) () 1
def owed₀ (c : Dev nD) : CellTallies nD τ sig Unit := owed₁ c + tallyAt (barCell (prv c)) () 1

/-- Every semaphore of a TensorCore may be waited on. -/
def L (g : GSem nD τ sig) : Finset Unit := if g.1.2 = .tc then {()} else ∅
/-- The barrier is at 1, the receive semaphore of hop `k` at `k + 2`, all else at 0. -/
def lv (g : GSem nD τ sig) (_ : Unit) : ℕ :=
  match g.2 with
  | .reg b => if b = barS then 1 else 0
  | .dma q => match decode q with
    | some (true, i) => i.1.val + 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; exact if_pos rfl
theorem lv_rcv (c : Dev nD) (i : Hop) : lv (rcvCell c i) () = i.1.val + 2 := by dsimp only [lv]; rw [decode_rcv]
theorem lv_snd (c : Dev nD) (i : Hop) : lv (sndCell c i) () = 0 := by dsimp only [lv]; rw [decode_snd]

theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- Whatever is owed before a list of steps is owed at the receive semaphore of a hop that one of them sends. -/
theorem owed_pos {c : Dev nD} {g : GSem nD τ sig} {u : Unit} : ∀ {l : List Step}, 0 < owed c l g u →
    ∃ a ∈ l, ∃ i, sends a = some i ∧ g = rcvCell (ahead i.2.1 c) i
  | [], h => absurd h (Nat.lt_irrefl 0)
  | a :: l, h => by
    rw [owed, Pi.add_apply, Finsupp.add_apply] at h
    by_cases h₁ : 0 < owed c l g u
    · obtain ⟨b, hb, r⟩ := owed_pos h₁
      exact ⟨b, List.mem_cons_of_mem _ hb, r⟩
    · have h₂ : 0 < owesHop c (sends a) g u := by omega
      cases hs : sends a with
      | none => rw [hs] at h₂; exact absurd h₂ (Nat.lt_irrefl 0)
      | some i =>
        rw [hs] at h₂
        exact ⟨a, List.mem_cons_self, i, hs, tally_pos h₂⟩

theorem sends_val {a : Step} {i : Hop} (h : sends a = some i) : i.1.val = a.1.val := by
  obtain ⟨k, l⟩ := a
  unfold sends at h; dsimp only at h; split at h
  · cases h; rfl
  · cases h

/-- A semaphore below all that the remaining steps owe may be waited on. -/
theorem mayWait_steps (c : Dev nD) (q : SemLoc sig) (b : ℕ) (l : List Step) (hq : lv ((c : Thread nD τ), q) () ≤ b)
    (hl : ∀ a ∈ l, b < a.1.val + 2) :
    (levAts L lv : sProp 𝕄) ⊢ MayWait (c : Thread nD τ) q () (owed c l) :=
  MayOwe.of_cut (L := L) (lev := lv) b (fun p hp => by rw [Finset.mem_singleton.mp hp, L_tc]; exact Finset.mem_singleton_self _)
    (fun g u hg => by obtain ⟨a, -, i, -, rfl⟩ := owed_pos hg; exact Finset.mem_singleton_self _)
    (fun p hp => by rw [Finset.mem_singleton.mp hp]; exact hq)
    (fun g u hg => by
      obtain ⟨a, ha, i, hi, rfl⟩ := owed_pos hg
      rw [lv_rcv, sends_val hi]; exact hl a ha)

theorem owed₀_pos {c : Dev nD} {g : GSem nD τ sig} {u : Unit} (h : 0 < owed₀ c g u) : L g = {()} ∧ 0 < lv g () := by
  unfold owed₀ owed₁ at h
  rw [Pi.add_apply, Finsupp.add_apply, Pi.add_apply, Finsupp.add_apply] at h
  by_cases h₁ : 0 < owed c steps g u
  · obtain ⟨a, -, i, -, rfl⟩ := owed_pos h₁
    exact ⟨rfl, by rw [lv_rcv]; omega⟩
  · by_cases h₂ : 0 < (tallyAt (barCell (nxt c)) () 1 : CellTallies nD τ sig Unit) g u
    · obtain rfl := tally_pos h₂
      exact ⟨rfl, by rw [lv_bar]; omega⟩
    · obtain rfl := tally_pos (g := g) (g' := barCell (prv c)) (u := u) (n := 1) (by omega)
      exact ⟨rfl, by rw [lv_bar]; omega⟩

/-- A staging semaphore may be waited on whatever the protocol owes. -/
theorem mayWait_stage (c : Dev nD) (q : SemLoc sig) (hq : lv ((c : Thread nD τ), q) () = 0) (O : CellTallies nD τ sig Unit)
    (hO : O = owed₀ c ∨ O = 0) : (levAts L lv : sProp 𝕄) ⊢ MayWait (c : Thread nD τ) q () O := by
  rcases hO with rfl | rfl
  · exact MayOwe.of_cut (L := L) (lev := lv) 0 (fun p hp => by rw [Finset.mem_singleton.mp hp, L_tc]; exact Finset.mem_singleton_self _)
      (fun g u hg => by rw [(owed₀_pos hg).1]; exact Finset.mem_singleton_self _)
      (fun p hp => by rw [Finset.mem_singleton.mp hp]; exact hq.le)
      (fun g u hg => (owed₀_pos hg).2)
  · rw [MayWait_zero]; iintro -; iempintro

end Cert.Proof

end
-- ==== Proof.Ops.lean ====
/-
  One operation of the body at a time, on device `c`: what it needs and what it leaves.
-/
module

public import proofs.«01_k».proof.Proof.Cells

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- `p`, run on device `c`, ends in `Φ`. -/
abbrev runs {α : Type} (c : Dev nD) (p : Prog (TpuEff nD τ sig (Elt F) Λ₀ .tc) α) (Φ : α → sProp 𝕄) : sProp 𝕄 :=
  wp frame (wpE (defs₀ (F := F)) Variants.none (c : Thread nD τ) none) Set.univ p Φ

variable (c : Dev nD)

/-! ## Reads and writes of blocks -/

/-- `g` with the block at `off` overwritten by `w`. -/
def paste (g : Vec F S2048x1024 .f32) (off : Fin 2 → ℕ) (hi : InB off) (w : Vec F S512x256 .f32) : Vec F S2048x1024 .f32 :=
  ((Memref.whole cc0_stg1_0).access (blockRect off hi)).write (Elt F) g w Finset.univ

omit [FloatOps F] in
/-- The block written reads what was written, -/
theorem blk_paste (g : Vec F S2048x1024 .f32) (off : Fin 2 → ℕ) (hi : InB off) (w : Vec F S512x256 .f32) :
    blk (paste g off hi w) off hi = w :=
  View.read_write_univ (v := (Memref.whole cc0_stg1_0).access (blockRect off hi)) g w

omit [FloatOps F] in
/-- and a block away from it is as before. -/
theorem blk_paste_of_disjoint (g : Vec F S2048x1024 .f32) (off off' : Fin 2 → ℕ) (hi : InB off) (hi' : InB off') (w : Vec F S512x256 .f32)
    (h : ∃ a, off a + S512x256.size a ≤ off' a ∨ off' a + S512x256.size a ≤ off a) :
    blk (paste g off hi w) off' hi' = blk g off' hi' := by
  refine View.read_slice_write_slice_of_disjoint (v := (Memref.whole cc0_stg1_0).view) (blockRect off' hi') (blockRect off hi) g w Finset.univ ?_
  rw [View.setOn_univ, View.set_slice, View.set_slice, Finset.disjoint_map]
  obtain ⟨a, ha⟩ := h
  exact Rect.unit_disjoint a ha.symm

theorem getT_runs (off : Fin 2 → ℕ) (hi : InB off) (f : Vec F S2048x1024 .f32) (Φ : Vec F S512x256 .f32 → sProp 𝕄) :
    (((c : Thread nD τ).loc cc0_stg0_0) ↦{fullShare} f)
      ⊢ iprop(((((c : Thread nD τ).loc cc0_stg0_0) ↦{fullShare} f) -∗ Φ (blk f off hi)) -∗ runs c (getT K off hi) Φ) := by
  unfold runs getT Prog.lift
  iintro H Hk
  iapply (wp_load Variants.none (c : Thread nD τ) none Set.univ (m := K.t) (Finset.subset_univ _)) $$ H; iintro H
  rw [wp_ret, show K.t.view.readAt (Elt F) (blockRect off hi).toLoadRect f = blk f off hi from rfl]; imodintro
  iapply Hk; iexact H

theorem putOut_runs (off : Fin 2 → ℕ) (hi : InB off) (w : Vec F S512x256 .f32) (g : Vec F S2048x1024 .f32) (Φ : PUnit → sProp 𝕄) :
    (((c : Thread nD τ).loc cc0_stg1_0) ↦{fullShare} g)
      ⊢ iprop(((((c : Thread nD τ).loc cc0_stg1_0) ↦{fullShare} paste g off hi w) -∗ Φ ⟨⟩) -∗ runs c (putOut K off hi w) Φ) := by
  unfold runs putOut
  simp only [Prog.lift, Prog.bind_op, Prog.bind_ret]
  iintro H Hk
  iapply (wp_load Variants.none (c : Thread nD τ) none Set.univ (m := K.out) (Finset.subset_univ _)) $$ H; iintro H
  iapply (wp_store Variants.none (c : Thread nD τ) none Set.univ (m := K.out) (r := blockRect off hi) (Finset.subset_univ _)) $$ H; iintro H
  rw [wp_ret]; imodintro
  iapply Hk; iexact H

/-! ## Reads and writes of slots -/

section Slots
variable {n : ℕ} (M : Memref sig .tc .vmem (Slots n) .bf16) (h : Fin n) (s : Fin 2)

omit [FloatOps F] in
theorem slot_set : (M.access (slotRect h s)).set = (slot M h s).view.set := by
  exact (View.set_reshape (v := M.view.slice (slotRect h s)) _).symm

omit [FloatOps F] in
/-- A slot, read through its rectangle. -/
theorem read_slot (f : (slot M h s).view.ty.Contents (Elt F)) :
    asRows ((M.access (slotRect h s)).read (Elt F) f) = (slot M h s).view.read (Elt F) f := rfl

theorem getSlot_runs (q : PosShare TreeShare) (Y : Vec F S512x256 .bf16) (Φ : Vec F S1x512x256 .bf16 → sProp 𝕄) :
    holds c (slot M h s) q Y ⊢ iprop((holds c (slot M h s) q Y -∗ Φ (asSlot Y)) -∗ runs c (getSlot M h s) Φ) := by
  unfold runs getSlot Prog.lift holds
  iintro ⟨%f, %hf, H⟩ Hk
  iapply (wp_load_rect Variants.none (c : Thread nD τ) none Set.univ (m := M) (r := slotRect h s) (by rw [slot_set])) $$ H; iintro H
  rw [wp_ret]; imodintro
  have e : (M.access (slotRect h s)).read (Elt F) f = asSlot Y := by
    rw [← hf, ← read_slot, asSlot_asRows]
  rw [e]
  iapply Hk
  iexists f
  isplitr; · ipureintro; exact hf
  iexact H

theorem putSlot_runs (hM : M.IsWhole) (hp : (slotRect h s).PackedRows (EltTy.packing .bf16)) (w : Vec F S1x512x256 .bf16) (Φ : PUnit → sProp 𝕄) :
    room c (slot M h s) fullShare
      ⊢ iprop((holds c (slot M h s) fullShare (asRows w) -∗ Φ ⟨⟩) -∗ runs c (putSlot M hM h s hp w) Φ) := by
  unfold runs putSlot holds room
  simp only [Prog.lift, Prog.bind_op, Prog.bind_ret]
  iintro ⟨%f, H⟩ Hk
  iapply (wp_load_rect Variants.none (c : Thread nD τ) none Set.univ (m := M) (r := slotRect h s) (by rw [slot_set])) $$ H; iintro H
  iapply (wp_store Variants.none (c : Thread nD τ) none Set.univ (m := M) (r := slotRect h s) (by rw [View.setOn_univ, slot_set])) $$ H; iintro H
  rw [wp_ret]; imodintro
  iapply Hk
  iexists ((M.access (slotRect h s)).write (Elt F) f w Finset.univ)
  isplitr
  · ipureintro
    rw [← read_slot, View.read_write_univ]
  iexact H

end Slots

/-! ## The hops -/

variable (T : Dev nD → Vec F S2048x1024 .f32)

/-- What `c` owes, whatever waits it has made. -/
def busy (O : CellTallies nD τ sig Unit) : sProp 𝕄 := iprop(∃ W, owes (c : Thread nD τ) O W)

/-- The transfer of a hop, addressed to `n`, the device ahead. -/
theorem transfer_runs (k : Fin 6) (d : Bool) (s : Fin 2) (n : Dev nD) (hn : n = ahead d c) (κ₁ κ₂ : ℕ) (O : CellTallies nD τ sig Unit) (W : Waits sig Unit)
    {hsc : (dstM K d s k : Memref sig (Dev.tc n : Thread nD τ).2.kind .vmem S512x256 .bf16).view.ref.isScScratch = false}
    {hsrc : (srcM K d s k).view.WordExact} {hdst : (dstM K d s k).view.WordExact}
    {hsem : DmaTarget.Typed .vmem (.dma (recvSem K d s k)) (.remote (Dev.tc n : Thread nD τ) (dstM K d s k) (.dma (sendSem K d s k)) hsc)}
    (fs : Buf (Elt F) ((srcM K d s k).view.loc (c : Thread nD τ))) (hfs : (srcM K d s k).view.read (Elt F) fs = sent T c (k, d, s))
    (fd : Buf (Elt F) ((dstM K d s k).view.loc (ahead d c : Thread nD τ))) (Φ : PUnit → sProp 𝕄) :
    iprop(cellInv ER (Rd T) κ₁ (sndCell c (k, d, s)) ∗ cellInv ER (Rd T) κ₂ (rcvCell (ahead d c) (k, d, s))
        ∗ ((srcM K d s k).view.loc (c : Thread nD τ) ↦[(srcM K d s k).view.set]{hopShare (k, d, s)} fs)
        ∗ ((dstM K d s k).view.loc (ahead d c : Thread nD τ) ↦[(dstM K d s k).view.set]{fullShare} fd)
        ∗ owes (c : Thread nD τ) (O + owesHop c (some (k, d, s))) W
        ∗ dutyTok ER (sndCell c (k, d, s)) 0 true ∗ reached ER (sndCell c (k, d, s)) 0
        ∗ dutyTok ER (rcvCell (ahead d c) (k, d, s)) 0 true ∗ reached ER (rcvCell (ahead d c) (k, d, s)) 0)
      ⊢ iprop(((cred (tallyAt (sndCell c (k, d, s)) () N) ∗ owes (c : Thread nD τ) O W) -∗ runs c (.ret ⟨⟩) Φ)
          -∗ runs c (.op (.enqueueDma (srcM K d s k) (.remote (Dev.tc n : Thread nD τ) (dstM K d s k) (.dma (sendSem K d s k)) hsc)
              (.dma (recvSem K d s k)) hsrc hdst hsem) .ret) Φ) := by
  subst hn
  exact Rounds.wp_send_pointsTo Variants.none ER (Rd T) (c : Thread nD τ) none (κ₁ := κ₁) (κ₂ := κ₂)
    (r₁ := 0) (r₂ := 0) (d₁ := true) (d₂ := true) (fs := fs) (fd := fd) (q := hopShare (k, d, s))
    (by rw [duties_snd T c (k, d, s)]; exact Finset.mem_singleton_self _)
    (by rw [duties_rcv T (ahead d c) (k, d, s)]; exact Finset.mem_singleton_self _)
    () () N (by exact credit_dst (k, d, s)) rfl rfl O rfl (W := W)
    (by rw [pay_snd T c (k, d, s)]; unfold room; iintro H; iexists fs; iexact H)
    (by
      rw [pay_rcv T (ahead d c) (k, d, s)]; unfold holds
      iintro H
      iexists ((dstM K d s k).view.write (Elt F) fd ((srcM K d s k).view.read (Elt F) fs) Finset.univ)
      isplitr
      · ipureintro
        rw [View.read_write_univ, hfs]
        show _ = sent T (behind d (ahead d c)) (k, d, s)
        rw [behind_ahead]
      iexact H)

/-- Start a hop: its source and its landing place go, the promise that the source comes back stays. -/
theorem sendHop_runs (i : Hop) (κ₁ κ₂ : ℕ) (O : CellTallies nD τ sig Unit) (Φ : PUnit → sProp 𝕄) :
    iprop(cellInv ER (Rd T) κ₁ (sndCell c i) ∗ cellInv ER (Rd T) κ₂ (rcvCell (ahead i.2.1 c) i)
        ∗ holds c (src i) (hopShare i) (sent T c i) ∗ room (ahead i.2.1 c) (dst i) fullShare
        ∗ busy c (O + owesHop c (some i))
        ∗ dutyTok ER (sndCell c i) 0 true ∗ reached ER (sndCell c i) 0
        ∗ dutyTok ER (rcvCell (ahead i.2.1 c) i) 0 true ∗ reached ER (rcvCell (ahead i.2.1 c) i) 0)
      ⊢ iprop(((cred (tallyAt (sndCell c i) () N) ∗ busy c O) -∗ Φ ⟨⟩) -∗ runs c (sendHop K c i.2.1 i.2.2 i.1) Φ) := by
  obtain ⟨k, d, s⟩ := i
  unfold sendHop Prog.lift holds room busy
  iintro ⟨HIs, HIr, ⟨%fs, %hfs, Hs⟩, ⟨%fd, Hd⟩, ⟨%W, HO⟩, Hts, Hrs, Htr, Hrr⟩ Hk
  iapply (transfer_runs c T k d s _ (devOf_eq c d s k) κ₁ κ₂ O W fs hfs fd Φ) $$ [HIs HIr Hs Hd HO Hts Hrs Htr Hrr]
  · isplitl [HIs]; · iexact HIs
    isplitl [HIr]; · iexact HIr
    isplitl [Hs]; · iexact Hs
    isplitl [Hd]; · iexact Hd
    isplitl [HO]; · iexact HO
    isplitl [Hts]; · iexact Hts
    isplitl [Hrs]; · iexact Hrs
    isplitl [Htr]; · iexact Htr
    iexact Hrr
  iintro ⟨Hc, HO⟩
  unfold runs
  rw [wp_ret]; imodintro
  iapply Hk
  isplitl [Hc]; · iexact Hc
  iexists W; iexact HO

/-- Wait for a hop: its contents arrive, and the semaphore is used up. -/
theorem recvHop_runs (i : Hop) (κ : ℕ) (O : CellTallies nD τ sig Unit) (Φ : PUnit → sProp 𝕄) :
    iprop(cellInv ER (Rd T) κ (rcvCell c i) ∗ MayWait (c : Thread nD τ) (.dma (rcvSem i)) () O
        ∗ cred (tallyAt (rcvCell c i) () N) ∗ atPos ER (rcvCell c i) 0 ∅ 0 ∗ busy c O)
      ⊢ iprop(((holds c (dst i) fullShare (brought T c i) ∗ semVal (rcvCell c i) 0 ∗ busy c O) -∗ Φ ⟨⟩)
          -∗ runs c (recvHop K i.2.1 i.2.2 i.1) Φ) := by
  unfold runs recvHop Prog.lift busy
  iintro ⟨#HI, HM, Hc, Hat, ⟨%W, HO⟩⟩ Hk
  iapply (Rounds.wp_wait_rest_token Variants.none ER (Rd T) (c : Thread nD τ) none (κ := κ)
      (wpE_waitDma2_eq Variants.none (c : Thread nD τ) none Set.univ) (Set.mem_univ _) () (O := O) (W := W) (R := 0) (m := 0) (T := ∅)
      (by rw [Nat.zero_add]; exact (credit_dst i).trans (expect_rcv T c i).symm)) $$ [HM Hc Hat HO]
  · isplitr; · iexact HI
    isplitl [Hc]; · iexact Hc
    isplitl [HO]; · iexact HO
    isplitl [HM]; · iexact HM
    iexact Hat
  iintro ⟨HO, Hat, -, Hpay⟩
  imod (Rounds.cell_close ER (Rd T) (Set.mem_univ κ) (fun h => h) (R := 0 + 1) (duties_later T (rcvCell c i))) $$ [Hat] with Hz
  · isplitr; · iexact HI
    iexact Hat
  rw [wp_ret]; imodintro
  iapply Hk
  isplitl [Hpay]; · iapply (Entails.of_eq (rest_rcv T c i)); iexact Hpay
  isplitl [Hz]; · iexact Hz
  iexists _; iexact HO

/-- Wait for a hop's source, once nothing is owed: it comes back, and the semaphore is used up. -/
theorem drainHop_runs (i : Hop) (κ : ℕ) (Φ : PUnit → sProp 𝕄) :
    iprop(cellInv ER (Rd T) κ (sndCell c i) ∗ cred (tallyAt (sndCell c i) () N) ∗ atPos ER (sndCell c i) 0 ∅ 0 ∗ busy c 0)
      ⊢ iprop(((room c (src i) (hopShare i) ∗ semVal (sndCell c i) 0 ∗ busy c 0) -∗ Φ ⟨⟩)
          -∗ runs c (drainHop K i.2.1 i.2.2 i.1) Φ) := by
  unfold runs drainHop Prog.lift busy
  iintro ⟨#HI, Hc, Hat, ⟨%W, HO⟩⟩ Hk
  iapply (Rounds.wp_wait_rest_token Variants.none ER (Rd T) (c : Thread nD τ) none (κ := κ)
      (wpE_waitDma2_eq Variants.none (c : Thread nD τ) none Set.univ) (Set.mem_univ _) () (O := 0) (W := W) (R := 0) (m := 0) (T := ∅)
      (by rw [Nat.zero_add]; exact (credit_src i).trans (expect_snd T c i).symm)) $$ [Hc Hat HO]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd T) (Set.mem_univ κ) (fun h => h) (R := 0 + 1) (duties_later T (sndCell c i))) $$ [Hat] with Hz
  · isplitr; · iexact HI
    iexact Hat
  rw [wp_ret]; imodintro
  iapply Hk
  isplitl [Hpay]; · iapply (Entails.of_eq (rest_snd T c i)); iexact Hpay
  isplitl [Hz]; · iexact Hz
  iexists _; iexact HO

end Cert.Proof

end
-- ==== Proof.Steps.lean ====
/-
  The steps of a lane: what each needs of the protocol and of the buffers, and what it leaves.
-/
module

public import proofs.«01_k».proof.Proof.Ops

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → Vec F S2048x1024 .f32)

/-! ## What everybody knows -/

/-- Which of a device's semaphores: the barrier, or a hop's receive (`true`) or send (`false`) semaphore. -/
abbrev Own := Option (Bool × Hop)

/-- That semaphore of a device. -/
def cellAt : Dev nD × Own → GSem nD τ sig
  | (c, none) => barCell c
  | (c, some (true, i)) => rcvCell c i
  | (c, some (false, i)) => sndCell c i

/-- Every semaphore follows the schedule and is in its first round; and the levels. -/
def world (ν : Dev nD × Own → ℕ) : sProp 𝕄 :=
  iprop((bigSep Finset.univ fun p : Dev nD × Own => cellInv ER (Rd T) (ν p) (cellAt p))
    ∗ (bigSep Finset.univ fun p : Dev nD × Own => reached ER (cellAt p) 0) ∗ levAts L lv)

instance world_persistent (ν) : BI.Persistent (world (F := F) T ν) := by unfold world; infer_instance

theorem world_inv (ν) (p : Dev nD × Own) : world T ν ⊢ cellInv ER (Rd T) (ν p) (cellAt p) := by
  have h : (bigSep Finset.univ fun p : Dev nD × Own => (cellInv ER (Rd T) (ν p) (cellAt p) : sProp 𝕄)) ⊢ cellInv ER (Rd T) (ν p) (cellAt p) :=
    bigSep_elim (Finset.mem_univ p)
  unfold world
  iintro ⟨H, -, -⟩
  iapply h; iexact H
theorem world_reached (ν) (p : Dev nD × Own) : world T ν ⊢ reached ER (cellAt p) 0 := by
  have h : (bigSep Finset.univ fun p : Dev nD × Own => (reached ER (cellAt p) 0 : sProp 𝕄)) ⊢ reached ER (cellAt p) 0 :=
    bigSep_elim (Finset.mem_univ p)
  unfold world
  iintro ⟨-, H, -⟩
  iapply h; iexact H
theorem world_levels (ν) : world T ν ⊢ (levAts L lv : sProp 𝕄) := by
  unfold world
  iintro ⟨-, -, H⟩; iexact H

variable (c : Dev nD)

/-! ## What a hop needs and leaves, at its two ends -/

/-- The share of the landing place that stays with the receiver while it passes the chunk on. -/
def keepShare (i : Hop) : PosShare TreeShare := if i.1.val = 3 ∨ i.1.val = 4 then PosShare.right fullShare else fullShare

/-- To send a hop: the right to credit both its semaphores, its landing place, and its source, unless that
    is what an earlier hop brings. -/
def ready (i : Hop) : sProp 𝕄 :=
  iprop(atPos ER (sndCell c i) 0 ∅ 0 ∗ dutyTok ER (sndCell c i) 0 true ∗ dutyTok ER (rcvCell (ahead i.2.1 c) i) 0 true
    ∗ room (ahead i.2.1 c) (dst i) fullShare ∗ (if i.1.val ≤ 3 then room c (src i) fullShare else iprop(emp)))
/-- A hop under way: its source is to come back. -/
def flying (i : Hop) : sProp 𝕄 := iprop(atPos ER (sndCell c i) 0 ∅ 0 ∗ cred (tallyAt (sndCell c i) () N))
/-- Its source has come back. -/
def spent (i : Hop) : sProp 𝕄 := iprop(semVal (sndCell c i) 0 ∗ room c (src i) (hopShare i))
/-- A hop to be received. -/
def coming (i : Hop) : sProp 𝕄 := iprop(atPos ER (rcvCell c i) 0 ∅ 0 ∗ cred (tallyAt (rcvCell c i) () N))
/-- A hop received. -/
def landed (i : Hop) : sProp 𝕄 := iprop(semVal (rcvCell c i) 0 ∗ room c (dst i) (keepShare i))

/-- What a step needs -/
def ask (a : Step) : sProp 𝕄 := iprop((receives a).elim iprop(emp) (coming c) ∗ (sends a).elim iprop(emp) (ready c))
/-- and leaves. -/
def got (a : Step) : sProp 𝕄 := iprop((receives a).elim iprop(emp) (landed c) ∗ (sends a).elim iprop(emp) (flying c))

/-! ## The input, and the output so far -/

/-- The input block, at what it holds. -/
def tPts : sProp 𝕄 := iprop(((c : Thread nD τ).loc cc0_stg0_0) ↦{fullShare} T c)

/-- All that the steps not in `l` write has been written to `g`. -/
def Done (l : List Step) (g : Vec F S2048x1024 .f32) : Prop :=
  ∀ (j : Fin 4) (d : Bool) (s : Fin 2), ((⟨j.val + 3, by omega⟩ : Fin 7), d, s) ∉ l →
    blk g (outOff c d s j) (outOff_inb c d s j) = outVal T c d s j

/-- The output block before the steps `l`. -/
def outs (l : List Step) : sProp 𝕄 := iprop(∃ g, ⌜Done T c l g⌝ ∗ (((c : Thread nD τ).loc cc0_stg1_0) ↦{fullShare} g))

/-- The row, in chunks, that lane `(d, _)` writes with its chunk `j`. -/
def rowOf (d : Bool) (j : Fin 4) : ℕ := if d then (c.val + 1 + 3 * j.val) % 4 else (c.val + 3 + j.val) % 4

/-- Where the output is written, in closed form. -/
theorem outOff_eq (d : Bool) (s : Fin 2) (j : Fin 4) :
    outOff c d s j = ![512 * rowOf c d j, (if d then 0 else 512) + 256 * s.val] := by
  revert c d s j; decide

theorem rowOf_inj (d : Bool) (j j' : Fin 4) (h : rowOf c d j = rowOf c d j') : j = j' := by
  revert c d j j'; decide

/-- Two different blocks of the output do not meet. -/
theorem outOff_apart {d d' : Bool} {s s' : Fin 2} {j j' : Fin 4} (h : (j, d, s) ≠ (j', d', s')) :
    ∃ a, outOff c d s j a + S512x256.size a ≤ outOff c d' s' j' a ∨ outOff c d' s' j' a + S512x256.size a ≤ outOff c d s j a := by
  rw [outOff_eq, outOff_eq]
  by_cases hd : d = d' ∧ s = s'
  · obtain ⟨rfl, rfl⟩ := hd
    have hj : j ≠ j' := fun e => h (by rw [e])
    have hr : rowOf c d j ≠ rowOf c d j' := fun e => hj (rowOf_inj c d j j' e)
    refine ⟨0, ?_⟩
    show 512 * rowOf c d j + 512 ≤ 512 * rowOf c d j' ∨ 512 * rowOf c d j' + 512 ≤ 512 * rowOf c d j
    omega
  · refine ⟨1, ?_⟩
    show (if d then 0 else 512) + 256 * s.val + 256 ≤ (if d' then 0 else 512) + 256 * s'.val
      ∨ (if d' then 0 else 512) + 256 * s'.val + 256 ≤ (if d then 0 else 512) + 256 * s.val
    have hs : d = d' → s.val ≠ s'.val := fun e e' => hd ⟨e, Fin.ext e'⟩
    have := s.isLt
    have := s'.isLt
    cases d <;> cases d' <;> simp at hs ⊢ <;> omega

/-- Writing the block of a step leaves the blocks written before. -/
theorem Done.paste {l : List Step} {g : Vec F S2048x1024 .f32} {d : Bool} {s : Fin 2} (j : Fin 4)
    (h : Done T c (((⟨j.val + 3, by omega⟩ : Fin 7), d, s) :: l) g) :
    Done T c l (paste g (outOff c d s j) (outOff_inb c d s j) (outVal T c d s j)) := by
  intro j' d' s' hn
  by_cases e : (j, d, s) = (j', d', s')
  · obtain ⟨rfl, rfl, rfl⟩ : j = j' ∧ d = d' ∧ s = s' := by simpa using e
    exact blk_paste _ _ _ _
  · rw [blk_paste_of_disjoint _ _ _ _ _ _ (outOff_apart c e)]
    refine h j' d' s' fun hm => ?_
    rcases List.mem_cons.mp hm with he | hm
    · have e₁ : j'.val + 3 = j.val + 3 := congrArg (fun a : Step => a.1.val) he
      have e₂ : (d', s') = (d, s) := congrArg (fun a : Step => a.2) he
      refine e ?_
      rw [show j = j' from Fin.ext (by omega), ← e₂]
    · exact hn hm

/-- A step that writes nothing leaves it be. -/
theorem Done.skip {l : List Step} {g : Vec F S2048x1024 .f32} {a : Step} (ha : a.1.val < 3) (h : Done T c (a :: l) g) : Done T c l g :=
  fun j d s hn => h j d s fun hm => by
    rcases List.mem_cons.mp hm with he | hm
    · subst he; exact absurd ha (by simp)
    · exact hn hm

theorem outs_skip {l : List Step} {a : Step} (ha : a.1.val < 3) : outs T c (a :: l) ⊢ outs T c l := by
  unfold outs
  iintro ⟨%g, %h, H⟩
  iexists g
  isplitr; · ipureintro; exact h.skip T c ha
  iexact H

/-- Writing chunk `j` of a lane. -/
theorem putOut_step (l : List Step) (d : Bool) (s : Fin 2) (j : Fin 4) (Φ : PUnit → sProp 𝕄) :
    outs T c (((⟨j.val + 3, by omega⟩ : Fin 7), d, s) :: l)
      ⊢ iprop((outs T c l -∗ Φ ⟨⟩) -∗ runs c (putOut K (outOff c d s j) (outOff_inb c d s j) (outVal T c d s j)) Φ) := by
  unfold outs
  iintro ⟨%g, %h, H⟩ Hk
  iapply (putOut_runs c (outOff c d s j) (outOff_inb c d s j) (outVal T c d s j) g Φ) $$ H
  iintro H
  iapply Hk
  iexists _
  isplitr; · ipureintro; exact h.paste T c j
  iexact H

/-! ## The two ends of a hop, with what everybody knows -/

variable (ν : Dev nD × Own → ℕ)

/-- Send a hop whose source holds what it is to carry. -/
theorem send_step (i : Hop) (O : CellTallies nD τ sig Unit) (Φ : PUnit → sProp 𝕄) :
    iprop(world T ν ∗ holds c (src i) (hopShare i) (sent T c i) ∗ room (ahead i.2.1 c) (dst i) fullShare
        ∗ dutyTok ER (sndCell c i) 0 true ∗ dutyTok ER (rcvCell (ahead i.2.1 c) i) 0 true ∗ atPos ER (sndCell c i) 0 ∅ 0
        ∗ busy c (O + owesHop c (some i)))
      ⊢ iprop(((flying c i ∗ busy c O) -∗ Φ ⟨⟩) -∗ runs c (sendHop K c i.2.1 i.2.2 i.1) Φ) := by
  iintro ⟨#HW, Hs, Hd, Hts, Htr, Hat, HO⟩ Hk
  iapply (sendHop_runs c T i (ν (c, some (false, i))) (ν (ahead i.2.1 c, some (true, i))) O Φ) $$ [Hs Hd Hts Htr HO]
  · isplitr; · iapply (world_inv T ν (c, some (false, i))); iexact HW
    isplitr; · iapply (world_inv T ν (ahead i.2.1 c, some (true, i))); iexact HW
    isplitl [Hs]; · iexact Hs
    isplitl [Hd]; · iexact Hd
    isplitl [HO]; · iexact HO
    isplitl [Hts]; · iexact Hts
    isplitr; · iapply (world_reached T ν (c, some (false, i))); iexact HW
    isplitl [Htr]; · iexact Htr
    iapply (world_reached T ν (ahead i.2.1 c, some (true, i))); iexact HW
  iintro ⟨Hc, HO⟩
  iapply Hk
  unfold flying
  isplitl [Hc Hat]
  · isplitl [Hat]; · iexact Hat
    iexact Hc
  iexact HO

/-- Send a hop whose source was just written. -/
theorem send_full (i : Hop) (hi : i.1.val ≤ 3) (O : CellTallies nD τ sig Unit) (Φ : PUnit → sProp 𝕄) :
    iprop(world T ν ∗ holds c (src i) fullShare (sent T c i) ∗ room (ahead i.2.1 c) (dst i) fullShare
        ∗ dutyTok ER (sndCell c i) 0 true ∗ dutyTok ER (rcvCell (ahead i.2.1 c) i) 0 true ∗ atPos ER (sndCell c i) 0 ∅ 0
        ∗ busy c (O + owesHop c (some i)))
      ⊢ iprop(((flying c i ∗ busy c O) -∗ Φ ⟨⟩) -∗ runs c (sendHop K c i.2.1 i.2.2 i.1) Φ) := by
  have h := send_step T c ν i O Φ
  rwa [show hopShare i = fullShare from if_pos hi] at h

/-- Receive the hop before the remaining steps, which only send later ones. -/
theorem recv_step (i : Hop) (l : List Step) (hl : ∀ a ∈ l, i.1.val < a.1.val) (Φ : PUnit → sProp 𝕄) :
    iprop(world T ν ∗ coming c i ∗ busy c (owed c l))
      ⊢ iprop(((holds c (dst i) fullShare (brought T c i) ∗ semVal (rcvCell c i) 0 ∗ busy c (owed c l)) -∗ Φ ⟨⟩)
          -∗ runs c (recvHop K i.2.1 i.2.2 i.1) Φ) := by
  unfold coming
  iintro ⟨#HW, ⟨Hat, Hc⟩, HO⟩ Hk
  iapply (recvHop_runs c T i (ν (c, some (true, i))) (owed c l) Φ) $$ [Hat Hc HO] Hk
  isplitr; · iapply (world_inv T ν (c, some (true, i))); iexact HW
  isplitr
  · iapply (mayWait_steps (F := F) c (.dma (rcvSem i)) (i.1.val + 2) l (lv_rcv c i).le (fun a ha => by have := hl a ha; omega))
    iapply (world_levels T ν); iexact HW
  isplitl [Hc]; · iexact Hc
  isplitl [Hat]; · iexact Hat
  iexact HO

/-- The landing place, split in the part that is passed on and the part that is read. -/
theorem holds_halves (m : Memref sig .tc .vmem S512x256 .bf16) (Y : Vec F S512x256 .bf16) :
    holds c m fullShare Y ⊢ iprop(holds c m (PosShare.left fullShare) Y ∗ holds c m (PosShare.right fullShare) Y) := by
  unfold holds
  iintro ⟨%f, %hf, H⟩
  ihave H2 := ((pointsTo_share (PosShare.mem_left_op_right fullShare)).1) $$ H
  icases H2 with ⟨H₁, H₂⟩
  isplitl [H₁]
  · iexists f
    isplitr; · ipureintro; exact hf
    iexact H₁
  · iexists f
    isplitr; · ipureintro; exact hf
    iexact H₂

end Cert.Proof

end
-- ==== Proof.Lane.lean ====
/-
  Every step of a lane, run; and all of them in order.
-/
module

public import proofs.«01_k».proof.Proof.Steps

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → Vec F S2048x1024 .f32) (ν : Dev nD × Own → ℕ) (c : Dev nD)

omit [FloatOps F] in
/-- One more index. -/
theorem bigSep_put {I : Type} [DecidableEq I] {S : Finset I} {i : I} (h : i ∉ S) (Φ : I → sProp 𝕄) :
    bigSep (insert i S) Φ = iprop(Φ i ∗ bigSep S Φ) := bigSep_insert h

/-- What is shared by all steps, before the steps `l`. -/
def shared (l : List Step) : sProp 𝕄 := iprop(busy c (owed c l) ∗ tPts T c ∗ outs T c l)

/-- The first step. -/
theorem first_runs (l : List Step) (d : Bool) (s : Fin 2) (Φ : PUnit → sProp 𝕄) :
    iprop(world T ν ∗ ready c (0, d, s) ∗ shared T c ((0, d, s) :: l))
      ⊢ iprop(((flying c (0, d, s) ∗ shared T c l) -∗ Φ ⟨⟩) -∗ runs c (stepFirst K c d s) Φ) := by
  unfold runs stepFirst shared ready tPts
  simp only [wp_bind]
  iintro ⟨#HW, ⟨Hat, Hts, Htr, Hd, Hs⟩, HO, Ht, Ho⟩ Hk
  iapply (getT_runs c _ _ (T c) _) $$ Ht; iintro Ht
  ihave Hs := (Entails.of_eq (show (if (((0, d, s) : Hop).1).val ≤ 3 then room c (src (0, d, s)) fullShare else iprop(emp)) = room c (slot (K.snd d) 0 s) fullShare from if_pos (Nat.zero_le 3))) $$ Hs
  iapply (putSlot_runs c (K.snd d) 0 s (K.sndW d) (packed_slot3 0 s) _ _) $$ Hs; iintro Hs
  iapply (send_full T c ν (0, d, s) (Nat.zero_le 3) (owed c l) Φ) $$ [Hs Hd Hts Htr Hat HO]
  · isplitr; · iexact HW
    isplitl [Hs]; · iexact Hs
    isplitl [Hd]; · iexact Hd
    isplitl [Hts]; · iexact Hts
    isplitl [Htr]; · iexact Htr
    isplitl [Hat]; · iexact Hat
    iexact HO
  iintro ⟨Hf, HO⟩
  iapply Hk
  isplitl [Hf]; · iexact Hf
  isplitl [HO]; · iexact HO
  isplitl [Ht]; · iexact Ht
  iapply (outs_skip T c (a := (0, d, s)) (Nat.zero_lt_succ 2)); iexact Ho

/-- A step that folds: hop `k` comes, hop `k'` goes. -/
theorem fold_runs (l : List Step) (d : Bool) (s : Fin 2) (k : Fin 6) (h h' : Fin 3) (k' : Fin 6) (m : Fin 7)
    (hdst : dst (k, d, s) = slot (K.rs d) h s) (hsrc : src (k', d, s) = slot (K.snd d) h' s)
    (hsent : sent T c (k', d, s) = asRows (k0_pay8 (asSlot (brought T c (k, d, s))) (blk (T c) (offFold c h d s) (offFold_inb c h d s))))
    (hk : k.val < 3) (hk' : k'.val ≤ 3) (hm : m.val < 3) (hs : sends (m, d, s) = some (k', d, s))
    (hl : ∀ a ∈ (m, d, s) :: l, k.val < a.1.val) (Φ : PUnit → sProp 𝕄) :
    iprop(world T ν ∗ (coming c (k, d, s) ∗ ready c (k', d, s)) ∗ shared T c ((m, d, s) :: l))
      ⊢ iprop((((landed c (k, d, s) ∗ flying c (k', d, s)) ∗ shared T c l) -∗ Φ ⟨⟩) -∗ runs c (stepFold K c d s k h h' k') Φ) := by
  unfold runs stepFold shared ready tPts
  simp only [wp_bind]
  iintro ⟨#HW, ⟨Hco, ⟨Hat, Hts, Htr, Hd, Hs⟩⟩, HO, Ht, Ho⟩ Hk
  iapply (recv_step T c ν (k, d, s) ((m, d, s) :: l) hl _) $$ [Hco HO]
  · isplitr; · iexact HW
    isplitl [Hco]; · iexact Hco
    iexact HO
  iintro ⟨Hr, Hz, HO⟩
  ihave Hr := (Entails.of_eq (congrArg (fun M => holds c M fullShare (brought T c (k, d, s))) hdst)) $$ Hr
  iapply (getSlot_runs c (K.rs d) h s fullShare _ _) $$ Hr; iintro Hr
  iapply (getT_runs c _ _ (T c) _) $$ Ht; iintro Ht
  ihave Hs := (Entails.of_eq ((if_pos hk').trans (congrArg (fun M => room c M fullShare) hsrc))) $$ Hs
  iapply (putSlot_runs c (K.snd d) h' s (K.sndW d) (packed_slot3 h' s) _ _) $$ Hs; iintro Hs
  rw [← hsent]
  ihave Hs := (Entails.of_eq (congrArg (fun M => holds c M fullShare (sent T c (k', d, s))) hsrc.symm)) $$ Hs
  iapply (send_full T c ν (k', d, s) hk' (owed c l) Φ) $$ [Hs Hd Hts Htr Hat HO]
  · isplitr; · iexact HW
    isplitl [Hs]; · iexact Hs
    isplitl [Hd]; · iexact Hd
    isplitl [Hts]; · iexact Hts
    isplitl [Htr]; · iexact Htr
    isplitl [Hat]; · iexact Hat
    rw [← hs]; iexact HO
  iintro ⟨Hf, HO⟩
  iapply Hk
  isplitl [Hz Hr Hf]
  · isplitl [Hz Hr]
    · unfold landed
      isplitl [Hz]; · iexact Hz
      rw [show keepShare (k, d, s) = fullShare from if_neg (by show ¬(k.val = 3 ∨ k.val = 4); omega), hdst]
      iapply (holds_room c _ _ (brought T c (k, d, s))); iexact Hr
    iexact Hf
  isplitl [HO]; · iexact HO
  isplitl [Ht]; · iexact Ht
  iapply (outs_skip T c (a := (m, d, s)) hm); iexact Ho

/-- The step that finishes the lane's own chunk. -/
theorem turn_runs (l : List Step) (d : Bool) (s : Fin 2)
    (hl : ∀ a ∈ ((3, d, s) : Step) :: l, 2 < a.1.val) (Φ : PUnit → sProp 𝕄) :
    iprop(world T ν ∗ (coming c (2, d, s) ∗ ready c (3, d, s)) ∗ shared T c ((3, d, s) :: l))
      ⊢ iprop((((landed c (2, d, s) ∗ flying c (3, d, s)) ∗ shared T c l) -∗ Φ ⟨⟩) -∗ runs c (stepTurn K c d s) Φ) := by
  unfold runs stepTurn shared ready tPts
  simp only [wp_bind]
  iintro ⟨#HW, ⟨Hco, ⟨Hat, Hts, Htr, Hd, Hs⟩⟩, HO, Ht, Ho⟩ Hk
  iapply (recv_step T c ν (2, d, s) ((3, d, s) :: l) hl _) $$ [Hco HO]
  · isplitr; · iexact HW
    isplitl [Hco]; · iexact Hco
    iexact HO
  iintro ⟨Hr, Hz, HO⟩
  ihave Hr := (Entails.of_eq (show holds c (dst (2, d, s)) fullShare (brought T c (2, d, s)) = holds c (slot (K.rs d) 2 s) fullShare (brought T c (2, d, s)) from rfl)) $$ Hr
  iapply (getSlot_runs c (K.rs d) 2 s fullShare _ _) $$ Hr; iintro Hr
  iapply (getT_runs c _ _ (T c) _) $$ Ht; iintro Ht
  ihave Hs := (Entails.of_eq (show (if (((3, d, s) : Hop).1).val ≤ 3 then room c (src (3, d, s)) fullShare else iprop(emp)) = room c (slot (K.ag d) 0 s) fullShare from if_pos (Nat.le_refl 3))) $$ Hs
  iapply (putSlot_runs c (K.ag d) 0 s (K.agW d) (packed_slot4 0 s) _ _) $$ Hs; iintro Hs
  iapply (send_full T c ν (3, d, s) (Nat.le_refl 3) (owed c l) _) $$ [Hs Hd Hts Htr Hat HO]
  · isplitr; · iexact HW
    isplitl [Hs]; · iexact Hs
    isplitl [Hd]; · iexact Hd
    isplitl [Hts]; · iexact Hts
    isplitl [Htr]; · iexact Htr
    isplitl [Hat]; · iexact Hat
    iexact HO
  iintro ⟨Hf, HO⟩
  ihave Ho := (Entails.of_eq (show outs T c ((3, d, s) :: l) = outs T c (((⟨(0 : Fin 4).val + 3, by decide⟩ : Fin 7), d, s) :: l) from rfl)) $$ Ho
  iapply (putOut_step T c l d s 0 Φ) $$ Ho; iintro Ho
  iapply Hk
  isplitl [Hz Hr Hf]
  · isplitl [Hz Hr]
    · unfold landed
      isplitl [Hz]; · iexact Hz
      iapply (holds_room c _ _ (brought T c (2, d, s))); iexact Hr
    iexact Hf
  isplitl [HO]; · iexact HO
  isplitl [Ht]; · iexact Ht
  iexact Ho

/-- A step that passes a finished chunk on: hop `k` comes, hop `k'` goes. -/
theorem pass_runs (l : List Step) (d : Bool) (s : Fin 2) (k : Fin 6) (h : Fin 3) (g : Fin 4) (k' : Fin 6) (j : Fin 4)
    (hdst : dst (k, d, s) = slot (K.ag d) g s) (hsrc : src (k', d, s) = slot (K.ag d) g s)
    (hsent : sent T c (k', d, s) = brought T c (k, d, s))
    (hk : k.val = 3 ∨ k.val = 4) (hk' : ¬k'.val ≤ 3)
    (hs : sends ((⟨j.val + 3, by omega⟩ : Fin 7), d, s) = some (k', d, s))
    (hout : ∀ Φ : PUnit → sProp 𝕄, runs c (putOut K (offPass c h d s) (offPass_inb c h d s) (k0_pay27 (asSlot (brought T c (k, d, s))))) Φ
      = runs c (putOut K (outOff c d s j) (outOff_inb c d s j) (outVal T c d s j)) Φ)
    (hl : ∀ a ∈ ((⟨j.val + 3, by omega⟩ : Fin 7), d, s) :: l, k.val < a.1.val) (Φ : PUnit → sProp 𝕄) :
    iprop(world T ν ∗ (coming c (k, d, s) ∗ ready c (k', d, s)) ∗ shared T c (((⟨j.val + 3, by omega⟩ : Fin 7), d, s) :: l))
      ⊢ iprop((((landed c (k, d, s) ∗ flying c (k', d, s)) ∗ shared T c l) -∗ Φ ⟨⟩) -∗ runs c (stepPass K c d s k h g k') Φ) := by
  unfold runs stepPass shared ready
  simp only [wp_bind]
  iintro ⟨#HW, ⟨Hco, ⟨Hat, Hts, Htr, Hd, -⟩⟩, HO, Ht, Ho⟩ Hk
  iapply (recv_step T c ν (k, d, s) (((⟨j.val + 3, by omega⟩ : Fin 7), d, s) :: l) hl _) $$ [Hco HO]
  · isplitr; · iexact HW
    isplitl [Hco]; · iexact Hco
    iexact HO
  iintro ⟨Hr, Hz, HO⟩
  ihave Hr := (Entails.of_eq (congrArg (fun M => holds c M fullShare (brought T c (k, d, s))) hdst)) $$ Hr
  ihave Hr := (holds_halves c _ _) $$ Hr
  icases Hr with ⟨Hs, Hr⟩
  ihave Hs := (Entails.of_eq (show _ = holds c (src (k', d, s)) (hopShare (k', d, s)) (sent T c (k', d, s)) by
    rw [show hopShare (k', d, s) = PosShare.left fullShare from if_neg hk', hsrc, hsent])) $$ Hs
  iapply (send_step T c ν (k', d, s) (owed c l) _) $$ [Hs Hd Hts Htr Hat HO]
  · isplitr; · iexact HW
    isplitl [Hs]; · iexact Hs
    isplitl [Hd]; · iexact Hd
    isplitl [Hts]; · iexact Hts
    isplitl [Htr]; · iexact Htr
    isplitl [Hat]; · iexact Hat
    rw [← hs]; iexact HO
  iintro ⟨Hf, HO⟩
  iapply (getSlot_runs c (K.ag d) g s (PosShare.right fullShare) _ _) $$ Hr; iintro Hr
  iapply (Entails.of_eq (hout Φ).symm)
  iapply (putOut_step T c l d s j Φ) $$ Ho; iintro Ho
  iapply Hk
  isplitl [Hz Hr Hf]
  · isplitl [Hz Hr]
    · unfold landed
      isplitl [Hz]; · iexact Hz
      rw [show keepShare (k, d, s) = PosShare.right fullShare from if_pos hk, hdst]
      iapply (holds_room c _ _ (brought T c (k, d, s))); iexact Hr
    iexact Hf
  isplitl [HO]; · iexact HO
  isplitl [Ht]; · iexact Ht
  iexact Ho

/-- The last step. -/
theorem last_runs (l : List Step) (d : Bool) (s : Fin 2)
    (hl : ∀ a ∈ ((6, d, s) : Step) :: l, 5 < a.1.val) (Φ : PUnit → sProp 𝕄) :
    iprop(world T ν ∗ coming c (5, d, s) ∗ shared T c ((6, d, s) :: l))
      ⊢ iprop(((landed c (5, d, s) ∗ shared T c l) -∗ Φ ⟨⟩) -∗ runs c (stepLast K c d s) Φ) := by
  unfold runs stepLast shared
  simp only [wp_bind]
  iintro ⟨#HW, Hco, HO, Ht, Ho⟩ Hk
  iapply (recv_step T c ν (5, d, s) ((6, d, s) :: l) hl _) $$ [Hco HO]
  · isplitr; · iexact HW
    isplitl [Hco]; · iexact Hco
    iexact HO
  iintro ⟨Hr, Hz, HO⟩
  ihave HO := (Entails.of_eq (show busy (F := F) c (owed c ((6, d, s) :: l)) = busy c (owed c l) from congrArg (busy c) (add_zero _))) $$ HO
  ihave Hr := (Entails.of_eq (show holds c (dst (5, d, s)) fullShare (brought T c (5, d, s)) = holds c (slot (K.ag d) 3 s) fullShare (brought T c (5, d, s)) from rfl)) $$ Hr
  iapply (getSlot_runs c (K.ag d) 3 s fullShare _ _) $$ Hr; iintro Hr
  ihave Ho := (Entails.of_eq (show outs T c ((6, d, s) :: l) = outs T c (((⟨(3 : Fin 4).val + 3, by decide⟩ : Fin 7), d, s) :: l) from rfl)) $$ Ho
  iapply (putOut_step T c l d s 3 Φ) $$ Ho; iintro Ho
  iapply Hk
  isplitl [Hz Hr]
  · unfold landed
    isplitl [Hz]; · iexact Hz
    iapply (holds_room c _ _ (brought T c (5, d, s))); iexact Hr
  isplitl [HO]; · iexact HO
  isplitl [Ht]; · iexact Ht
  iexact Ho

/-- Any step, before steps that come no earlier. -/
theorem step_runs (l : List Step) : ∀ (a : Step) (_ : ∀ b ∈ a :: l, a.1.val ≤ b.1.val) (Φ : PUnit → sProp 𝕄),
    iprop(world T ν ∗ ask c a ∗ shared T c (a :: l)) ⊢ iprop(((got c a ∗ shared T c l) -∗ Φ ⟨⟩) -∗ runs c (step K c a) Φ)
  | (0, d, s), _, Φ => by
    rw [show ask (F := F) c (0, d, s) = iprop(emp ∗ ready c (0, d, s)) from rfl, show got (F := F) c (0, d, s) = iprop(emp ∗ flying c (0, d, s)) from rfl]
    iintro ⟨HW, ⟨-, Ha⟩, Hs⟩ Hk
    iapply (first_runs T ν c l d s Φ) $$ [HW Ha Hs]
    · isplitl [HW]; · iexact HW
      isplitl [Ha]; · iexact Ha
      iexact Hs
    iintro ⟨Hf, Hs⟩
    iapply Hk
    isplitl [Hf]
    · isplitr; · iempintro
      iexact Hf
    iexact Hs
  | (1, d, s), hl, Φ => fold_runs T ν c l d s 0 0 1 1 1 rfl rfl rfl (by decide) (by decide) (by decide) rfl hl Φ
  | (2, d, s), hl, Φ => fold_runs T ν c l d s 1 1 2 2 2 rfl rfl rfl (by decide) (by decide) (by decide) rfl hl Φ
  | (3, d, s), hl, Φ => turn_runs T ν c l d s hl Φ
  | (4, d, s), hl, Φ => pass_runs T ν c l d s 3 0 1 4 1 rfl rfl rfl (by decide) (by decide) rfl (fun _ => rfl) hl Φ
  | (5, d, s), hl, Φ => pass_runs T ν c l d s 4 1 2 5 2 rfl rfl rfl (by decide) (by decide) rfl (fun _ => rfl) hl Φ
  | (6, d, s), hl, Φ => by
    rw [show ask (F := F) c (6, d, s) = iprop(coming c (5, d, s) ∗ emp) from rfl, show got (F := F) c (6, d, s) = iprop(landed c (5, d, s) ∗ emp) from rfl]
    iintro ⟨HW, ⟨Ha, -⟩, Hs⟩ Hk
    iapply (last_runs T ν c l d s hl Φ) $$ [HW Ha Hs]
    · isplitl [HW]; · iexact HW
      isplitl [Ha]; · iexact Ha
      iexact Hs
    iintro ⟨Hf, Hs⟩
    iapply Hk
    isplitl [Hf]
    · isplitl [Hf]; · iexact Hf
      iempintro
    iexact Hs

/-- The steps of a list, sorted by hop, then what follows. -/
theorem steps_run (e : Body F PUnit) (Φ : PUnit → sProp 𝕄) : ∀ (l : List Step) (_ : l.Pairwise fun a b => a.1.val ≤ b.1.val) (_ : l.Nodup),
    iprop(world T ν ∗ bigSep l.toFinset (ask (F := F) c) ∗ shared T c l)
      ⊢ iprop(((bigSep l.toFinset (got (F := F) c) ∗ shared T c []) -∗ runs c e Φ) -∗ runs c (seqB (step K c) l e) Φ)
  | [], _, _ => by
    iintro ⟨-, Hm, Hs⟩ Hk
    iapply Hk
    isplitl [Hm]; · iexact Hm
    iexact Hs
  | a :: l, hl, hn => by
    have ha : a ∉ l.toFinset := fun h => (List.nodup_cons.mp hn).1 (List.mem_toFinset.mp h)
    rw [List.toFinset_cons, bigSep_put ha, bigSep_put ha]
    unfold seqB runs
    rw [wp_bind]
    iintro ⟨#HW, ⟨Ha, Hm⟩, Hs⟩ Hk
    have hab : ∀ b ∈ a :: l, a.1.val ≤ b.1.val := fun b hb => by
      rcases List.mem_cons.mp hb with rfl | hb
      · exact le_rfl
      · exact (List.pairwise_cons.mp hl).1 b hb
    iapply (step_runs T ν c l a hab _) $$ [Ha Hs]
    · isplitr; · iexact HW
      isplitl [Ha]; · iexact Ha
      iexact Hs
    iintro ⟨Hg, Hs⟩
    iapply (steps_run e Φ l (List.pairwise_cons.mp hl).2 (List.nodup_cons.mp hn).2) $$ [Hm Hs]
    · isplitr; · iexact HW
      isplitl [Hm]; · iexact Hm
      iexact Hs
    iintro ⟨Hm, Hs⟩
    iapply Hk
    isplitl [Hg Hm]
    · isplitl [Hg]; · iexact Hg
      iexact Hm
    iexact Hs

/-- The waits on the send semaphores. -/
theorem drains_run (e : Body F PUnit) (Φ : PUnit → sProp 𝕄) : ∀ (l : List Hop) (_ : l.Nodup),
    iprop(world T ν ∗ bigSep l.toFinset (flying (F := F) c) ∗ busy c 0)
      ⊢ iprop(((bigSep l.toFinset (spent (F := F) c) ∗ busy c 0) -∗ runs c e Φ)
          -∗ runs c (seqB (fun i : Hop => drainHop K i.2.1 i.2.2 i.1) l e) Φ)
  | [], _ => by
    iintro ⟨-, Hm, Hs⟩ Hk
    iapply Hk
    isplitl [Hm]; · iexact Hm
    iexact Hs
  | i :: l, hn => by
    have hi : i ∉ l.toFinset := fun h => (List.nodup_cons.mp hn).1 (List.mem_toFinset.mp h)
    rw [List.toFinset_cons, bigSep_put hi, bigSep_put hi]
    unfold seqB runs
    rw [wp_bind]
    iintro ⟨#HW, ⟨Ha, Hm⟩, Hs⟩ Hk
    unfold flying
    icases Ha with ⟨Hat, Hc⟩
    iapply (drainHop_runs c T i (ν (c, some (false, i))) _) $$ [Hat Hc Hs]
    · isplitr; · iapply (world_inv T ν (c, some (false, i))); iexact HW
      isplitl [Hc]; · iexact Hc
      isplitl [Hat]; · iexact Hat
      iexact Hs
    iintro ⟨Hr, Hz, Hs⟩
    iapply (drains_run e Φ l (List.nodup_cons.mp hn).2) $$ [Hm Hs]
    · isplitr; · iexact HW
      isplitl [Hm]; · unfold flying; iexact Hm
      iexact Hs
    iintro ⟨Hm, Hs⟩
    iapply Hk
    isplitl [Hr Hz Hm]
    · isplitl [Hr Hz]
      · unfold spent
        isplitl [Hz]; · iexact Hz
        iexact Hr
      iexact Hm
    iexact Hs

end Cert.Proof

end
-- ==== Proof.Whole.lean ====
/-
  The whole body on one device, from the barrier to the last wait.
-/
module

public import proofs.«01_k».proof.Proof.Lane

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the hops, the directions and the steps -/

omit [FloatOps F] in
/-- The two directions. -/
theorem bigSep_dirs (Φ : Bool → sProp 𝕄) : bigSep Finset.univ Φ = iprop(Φ true ∗ Φ false) := by
  rw [show (Finset.univ : Finset Bool) = insert true {false} from rfl, bigSep_put (by decide), bigSep_singleton]

/-- A hop, its direction first. -/
def dirFirst : Bool × (Fin 6 × Fin 2) ≃ Hop :=
  ⟨fun p => (p.2.1, p.1, p.2.2), fun i => (i.2.1, (i.1, i.2.2)), fun _ => rfl, fun _ => rfl⟩

omit [FloatOps F] in
/-- The hops of each direction. -/
theorem bigSep_hops (Φ : Hop → sProp 𝕄) :
    bigSep Finset.univ Φ = bigSep Finset.univ fun d : Bool => bigSep Finset.univ fun p : Fin 6 × Fin 2 => Φ (p.1, d, p.2) := by
  rw [bigSep_univ_equiv dirFirst, bigSep_univ_prod]; rfl

theorem steps_nodup : steps.Nodup := by decide
theorem drains_nodup : drains.Nodup := by decide
theorem steps_all : steps.toFinset = Finset.univ := by decide
theorem drains_all : drains.toFinset = Finset.univ := by decide
theorem steps_sorted : steps.Pairwise fun a b => a.1.val ≤ b.1.val := by decide

/-- The step that sends a hop, and the step that receives it. -/
def senderStep (i : Hop) : Step := (i.1.castSucc, i.2)
def receiverStep (i : Hop) : Step := (i.1.succ, i.2)

theorem sends_sender : ∀ i : Hop, sends (senderStep i) = some i := by decide
theorem receives_receiver : ∀ i : Hop, receives (receiverStep i) = some i := by decide
theorem sends_inj : ∀ (a b : Step) (i : Hop), sends a = some i → sends b = some i → a = b := fun a b i ha hb => by
  obtain ⟨k, l⟩ := a; obtain ⟨k', l'⟩ := b
  unfold sends at ha hb; dsimp only at ha hb
  split at ha <;> cases ha
  split at hb
  · injection hb with hb; injection hb with h₁ h₂
    have h₁ : k'.val = k.val := congrArg (fun x : Fin 6 => x.val) h₁
    rw [h₂, show k' = k from Fin.ext h₁]
  · cases hb
theorem receives_inj : ∀ (a b : Step) (i : Hop), receives a = some i → receives b = some i → a = b := fun a b i ha hb => by
  obtain ⟨k, l⟩ := a; obtain ⟨k', l'⟩ := b
  unfold receives at ha hb; dsimp only at ha hb
  split at ha <;> cases ha
  split at hb
  · injection hb with hb; injection hb with h₁ h₂
    have h₁ : k'.val - 1 = k.val - 1 := congrArg Fin.val h₁
    rw [h₂, show k' = k from Fin.ext (by omega)]
  · cases hb

omit [FloatOps F] in
/-- A family over the hops, dealt to the steps along a table, -/
theorem deal (f : Step → Option Hop) (hf : ∀ a b i, f a = some i → f b = some i → a = b) (Φ : Hop → sProp 𝕄) :
    bigSep Finset.univ Φ ⊢ bigSep Finset.univ fun a : Step => (f a).elim iprop(emp) Φ := bigSep_along f hf Φ

omit [FloatOps F] in
/-- and gathered again. -/
theorem gather (f : Step → Option Hop) (g : Hop → Step) (hg : ∀ i, f (g i) = some i) (Φ : Hop → sProp 𝕄) :
    (bigSep Finset.univ fun a : Step => (f a).elim iprop(emp) Φ) ⊢ bigSep Finset.univ Φ := by
  refine BIBase.Entails.trans (bigSep_along (fun i => some (g i)) (fun i j a hi hj => ?_) _) (Entails.of_eq (bigSep_congr fun i _ => ?_))
  · have e : g i = g j := (Option.some.inj hi).trans (Option.some.inj hj).symm
    exact Option.some.inj ((hg i).symm.trans ((congrArg f e).trans (hg j)))
  · show (f (g i)).elim iprop(emp) Φ = Φ i
    rw [hg]; rfl

variable (T : Dev nD → Vec F S2048x1024 .f32) (ν : Dev nD × Own → ℕ) (c : Dev nD)

/-! ## What a device starts with and ends with -/

/-- What sending a hop needs besides its landing place. -/
def armed (i : Hop) : sProp 𝕄 :=
  iprop(atPos ER (sndCell c i) 0 ∅ 0 ∗ dutyTok ER (sndCell c i) 0 true ∗ dutyTok ER (rcvCell (ahead i.2.1 c) i) 0 true
    ∗ (if i.1.val ≤ 3 then room c (src i) fullShare else iprop(emp)))

/-- The barrier's part: the device's own position, the units it will be sent, and the right to send one to each neighbour. -/
def barStart : sProp 𝕄 :=
  iprop(atPos ER (barCell c) 0 ∅ 0 ∗ cred (tallyAt (barCell c) () 2)
    ∗ dutyTok ER (barCell (prv c)) 0 true ∗ dutyTok ER (barCell (nxt c)) 0 false)

/-- At the start. -/
def atStart : sProp 𝕄 :=
  iprop(world T ν ∗ barStart c ∗ (bigSep Finset.univ fun i : Hop => room c (dst i) fullShare)
    ∗ bigSep Finset.univ (armed (F := F) c) ∗ bigSep Finset.univ (coming (F := F) c))

/-- At the end: every semaphore is at zero, and every place is the device's own again. -/
def atEnd : sProp 𝕄 :=
  iprop(semVal (barCell c) 0 ∗ bigSep Finset.univ (landed (F := F) c) ∗ bigSep Finset.univ (spent (F := F) c))

theorem barPay_own (d : Bool) : barPay (F := F) (behind d c) d = bigSep Finset.univ fun p : Fin 6 × Fin 2 => room c (dst (p.1, d, p.2)) fullShare := by
  unfold barPay; rw [ahead_behind]

theorem ready_one (i : Hop) : iprop(room (ahead i.2.1 c) (dst i) fullShare ∗ armed (F := F) c i) ⊢ ready c i := by
  unfold armed ready
  iintro ⟨Hd, Ha, Hs, Hr, Hx⟩
  isplitl [Ha]; · iexact Ha
  isplitl [Hs]; · iexact Hs
  isplitl [Hr]; · iexact Hr
  isplitl [Hd]; · iexact Hd
  iexact Hx

theorem ready_intro :
    iprop((bigSep Finset.univ fun d => barPay (F := F) c d) ∗ bigSep Finset.univ (armed (F := F) c)) ⊢ bigSep Finset.univ (ready (F := F) c) := by
  have e : (bigSep Finset.univ fun d => barPay (F := F) c d) = bigSep Finset.univ fun i : Hop => room (ahead i.2.1 c) (dst i) fullShare := by
    rw [bigSep_hops]; rfl
  rw [e, ← bigSep_sep']
  exact bigSep_mono fun i _ => ready_one c i

theorem ask_intro : iprop(bigSep Finset.univ (coming (F := F) c) ∗ bigSep Finset.univ (ready (F := F) c)) ⊢ bigSep Finset.univ (ask (F := F) c) := by
  unfold ask
  rw [bigSep_sep']
  exact BI.sep_mono (deal receives receives_inj _) (deal sends sends_inj _)

theorem got_elim : bigSep Finset.univ (got (F := F) c) ⊢ iprop(bigSep Finset.univ (landed (F := F) c) ∗ bigSep Finset.univ (flying (F := F) c)) := by
  unfold got
  rw [bigSep_sep']
  exact BI.sep_mono (gather receives receiverStep receives_receiver _) (gather sends senderStep sends_sender _)

set_option maxHeartbeats 1000000 in
/-- The body runs from the start to the end, leaves the input as it is and writes the whole output. -/
theorem clean_runs (g : Vec F S2048x1024 .f32) (W : Waits sig Unit) (Φ : PUnit → sProp 𝕄) :
    iprop(atStart T ν c ∗ owes (c : Thread nD τ) (owed₀ c) W ∗ tPts T c ∗ (((c : Thread nD τ).loc cc0_stg1_0) ↦{fullShare} g))
      ⊢ iprop(((atEnd (F := F) c ∗ busy c 0 ∗ tPts T c ∗ outs T c []) -∗ Φ ⟨⟩) -∗ runs c (clean K c) Φ) := by
  unfold runs clean meet atStart barStart
  simp only [semSignalWord, semWaitWord, Prog.lift, Prog.bind_op, Prog.bind_ret, Prog.pure_eq_ret, dev1_eq c, dev2_eq c]
  rw [bigSep_hops (fun i : Hop => room (F := F) c (dst i) fullShare), bigSep_dirs]
  iintro ⟨⟨#HW, ⟨Hat, Hcr, Htp, Htn⟩, ⟨Hcw, Hccw⟩, Harm, Hcom⟩, HO, Ht, Ho⟩ Hk
  -- one unit to the device before, with this device's clockwise landing places
  iapply (Rounds.wp_signal Variants.none ER (Rd T) (c : Thread nD τ) none (dst := (prv c : Thread nD τ)) (κ := ν (prv c, none))
      (d := true) (by rw [duties_bar]; exact Finset.mem_univ _) (by rfl) () (owed₁ c) (by rfl)) $$ [HO Htp Hcw]
  · isplitr; · iapply (world_inv T ν (prv c, none)); iexact HW
    isplitl [HO]; · iexact HO
    isplitl [Htp]; · iexact Htp
    isplitl [Hcw]
    · iapply (Entails.of_eq (show (Rd T).payload (barCell (prv c)) 0 true = _ from barPay_own (F := F) c true).symm); iexact Hcw
    · iapply (world_reached T ν (prv c, none)); iexact HW
  iintro HO
  -- one unit to the device after, with its counterclockwise ones
  unfold owed₁
  iapply (Rounds.wp_signal Variants.none ER (Rd T) (c : Thread nD τ) none (dst := (nxt c : Thread nD τ)) (κ := ν (nxt c, none))
      (d := false) (by rw [duties_bar]; exact Finset.mem_univ _) (by rfl) () (owed c steps) (by rfl)) $$ [HO Htn Hccw]
  · isplitr; · iapply (world_inv T ν (nxt c, none)); iexact HW
    isplitl [HO]; · iexact HO
    isplitl [Htn]; · iexact Htn
    isplitl [Hccw]
    · iapply (Entails.of_eq (show (Rd T).payload (barCell (nxt c)) 0 false = _ from barPay_own (F := F) c false).symm); iexact Hccw
    · iapply (world_reached T ν (nxt c, none)); iexact HW
  iintro HO
  -- the neighbours' landing places
  iapply (Rounds.wp_wait_rest_token Variants.none ER (Rd T) (c : Thread nD τ) none (κ := ν (c, none))
      (wpE_semWait_eq Variants.none (c : Thread nD τ) none Set.univ) (Set.mem_univ _) () (O := owed c steps) (W := W) (R := 0) (m := 0) (T := ∅)
      (by rw [expect_bar]; decide)) $$ [Hcr HO Hat]
  · isplitr; · iapply (world_inv T ν (c, none)); iexact HW
    isplitl [Hcr]; · iexact Hcr
    isplitl [HO]; · iexact HO
    isplitr
    · iapply (mayWait_steps (F := F) c (.reg barS) 1 steps (lv_bar c).le (fun a _ => by omega))
      iapply (world_levels T ν); iexact HW
    iexact Hat
  iintro ⟨HO, Hat, -, Hpay⟩
  ihave Hpay := (Entails.of_eq (rest_bar T c)) $$ Hpay
  imod (Rounds.cell_close ER (Rd T) (Set.mem_univ (ν (c, none))) (fun h => h) (R := 0 + 1) (duties_later T (barCell c))) $$ [Hat] with Hz
  · isplitr; · iapply (world_inv T ν (c, none)); iexact HW
    iexact Hat
  ihave Hready := (ready_intro (F := F) c) $$ [Hpay Harm]
  · isplitl [Hpay]; · iexact Hpay
    iexact Harm
  ihave Hask := (ask_intro (F := F) c) $$ [Hcom Hready]
  · isplitl [Hcom]; · iexact Hcom
    iexact Hready
  -- the steps
  iapply (steps_run T ν c _ Φ steps steps_sorted steps_nodup) $$ [Hask HO Ht Ho]
  · isplitr; · iexact HW
    isplitl [Hask]; · rw [steps_all]; iexact Hask
    unfold shared busy outs
    isplitl [HO]; · iexists _; iexact HO
    isplitl [Ht]; · iexact Ht
    iexists g
    isplitr
    · ipureintro
      exact fun j d s hn => absurd (List.mem_toFinset.mp (steps_all ▸ Finset.mem_univ _)) hn
    iexact Ho
  iintro ⟨Hgot, Hsh⟩
  rw [steps_all]
  ihave Hgot := (got_elim (F := F) c) $$ Hgot
  icases Hgot with ⟨Hland, Hfly⟩
  unfold shared
  icases Hsh with ⟨HO, Ht, Ho⟩
  -- the waits on the send semaphores
  iapply (drains_run T ν c (Prog.ret ⟨⟩) Φ drains drains_nodup) $$ [Hfly HO]
  · isplitr; · iexact HW
    isplitl [Hfly]; · rw [drains_all]; iexact Hfly
    iexact HO
  iintro ⟨Hsp, HO⟩
  rw [drains_all]
  unfold runs
  rw [wp_ret]; imodintro
  iapply Hk
  unfold atEnd
  isplitl [Hz Hland Hsp]
  · isplitl [Hz]; · iexact Hz
    isplitl [Hland]; · iexact Hland
    iexact Hsp
  isplitl [HO]; · iexact HO
  isplitl [Ht]; · iexact Ht
  iexact Ho

end Cert.Proof

end
-- ==== Proof.Places.lean ====
/-
  The six scratch buffers, cut into the places the hops use, and put together again.
-/
module

public import proofs.«01_k».proof.Proof.Whole
public import Idealize.ShloMosaic.Lib.Ring

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- A scratch buffer, whatever it holds. -/
def space {n : ℕ} (M : Memref sig .tc .vmem (Slots n) .bf16) : sProp 𝕄 :=
  iprop(∃ f : Buf (Elt F) (M.view.loc (c : Thread nD τ)), (M.view.loc (c : Thread nD τ)) ↦{fullShare} f)

section Cut
variable {n : ℕ} (M : Memref sig .tc .vmem (Slots n) .bf16) (hM : M.view.set = Finset.univ)

/-- The elements of one place. -/
abbrev place (p : Fin n × Fin 2) : Finset (Idx (M.view.loc (c : Thread nD τ))) := (slot M p.1 p.2).view.set

theorem place_eq (p : Fin n × Fin 2) : place c M p = (slotRect p.1 p.2).set.map M.view.emb := by
  show (slot M p.1 p.2).view.set = _
  rw [← slot_set]; exact View.set_slice (v := M.view) (slotRect p.1 p.2)

theorem place_disjoint (p p' : Fin n × Fin 2) (h : p ≠ p') : Disjoint (place c M p) (place c M p') := by
  rw [place_eq, place_eq, Finset.disjoint_map]
  by_cases e : p.1 = p'.1
  · refine Rect.unit_disjoint 2 ?_
    have hs : p.2.val ≠ p'.2.val := fun he => h (Prod.ext e (Fin.ext he))
    show 256 * p.2.val + 256 ≤ 256 * p'.2.val ∨ 256 * p'.2.val + 256 ≤ 256 * p.2.val
    omega
  · refine Rect.unit_disjoint 0 ?_
    have hs : p.1.val ≠ p'.1.val := fun he => e (Fin.ext he)
    show p.1.val + 1 ≤ p'.1.val ∨ p'.1.val + 1 ≤ p.1.val
    omega

include hM in
theorem place_cover : Finset.univ.biUnion (place c M) = Finset.univ := by
  ext i
  simp only [Finset.mem_biUnion, Finset.mem_univ, true_and, iff_true]
  have hi : i ∈ M.view.set := hM ▸ Finset.mem_univ i
  obtain ⟨x, -, rfl⟩ := Finset.mem_map.mp hi
  have h0 : (x 0).val < n := (x 0).isLt
  have h1 : (x 1).val < 512 := (x 1).isLt
  have h2 : (x 2).val < 512 := (x 2).isLt
  refine ⟨(⟨(x 0).val, h0⟩, ⟨(x 2).val / 256, by omega⟩), ?_⟩
  rw [place_eq]
  refine Finset.mem_map_of_mem _ (Rect.mem_set_unit.mpr fun a => ?_)
  fin_cases a
  · show (x 0).val ≤ (x 0).val ∧ (x 0).val < (x 0).val + 1
    omega
  · show 0 ≤ (x 1).val ∧ (x 1).val < 0 + 512
    omega
  · show 256 * ((x 2).val / 256) ≤ (x 2).val ∧ (x 2).val < 256 * ((x 2).val / 256) + 256
    omega

include hM in
theorem space_cut : space (F := F) c M ⊢ bigSep Finset.univ fun p : Fin n × Fin 2 => room c (slot M p.1 p.2) fullShare := by
  have e : ∀ f : Buf (Elt F) (M.view.loc (c : Thread nD τ)), ((M.view.loc (c : Thread nD τ)) ↦{fullShare} f : sProp 𝕄)
      ⊢ bigSep Finset.univ fun p : Fin n × Fin 2 => room c (slot M p.1 p.2) fullShare := fun f => by
    rw [Ring.pointsTo_blocks (place c M) (fun p p' h => place_disjoint c M p p' h) (place_cover c M hM) f]
    refine bigSep_mono fun p _ => ?_
    show (_ : sProp 𝕄) ⊢ room c (slot M p.1 p.2) fullShare
    unfold room
    iintro H; iexists f; iexact H
  unfold space
  iintro ⟨%f, H⟩
  iapply (e f); iexact H

include hM in
theorem space_join (f₀ : Buf (Elt F) (M.view.loc (c : Thread nD τ))) :
    (bigSep Finset.univ fun p : Fin n × Fin 2 => room (F := F) c (slot M p.1 p.2) fullShare) ⊢ space (F := F) c M :=
  Ring.pointsTo_blocks_join_exists (place c M) (fun p p' h => place_disjoint c M p p' h) (place_cover c M hM) f₀

end Cut

/-- Two halves of a place are the place. -/
theorem room_join (m : Memref sig .tc .vmem S512x256 .bf16) :
    iprop(room (F := F) c m (PosShare.left fullShare) ∗ room c m (PosShare.right fullShare)) ⊢ room c m fullShare := by
  unfold room
  iintro ⟨⟨%f, H⟩, ⟨%g, H'⟩⟩
  ihave Ha := (persistent_entails_right (pointsTo_agree (I := m.view.set) (J := m.view.set) (f := f) (g := g))) $$ [H H']
  · isplitl [H]; · iexact H
    iexact H'
  icases Ha with ⟨%ha, H, H'⟩
  iexists f
  iapply (pointsTo_share (PosShare.mem_left_op_right fullShare)).2
  isplitl [H]; · iexact H
  iapply (Entails.of_eq (pointsTo_congr (fun i hi => ((ha i (Finset.mem_inter.mpr ⟨hi, hi⟩)).1.symm))))
  iexact H'

/-! ## One direction -/

omit [FloatOps F] in
/-- A family over the slots and the two halves of each, slot by slot. -/
theorem bigSep_slots3 (Φ : Fin 3 × Fin 2 → sProp 𝕄) :
    bigSep Finset.univ Φ = iprop((bigSep Finset.univ fun s => Φ (0, s)) ∗ (bigSep Finset.univ fun s => Φ (1, s))
      ∗ bigSep Finset.univ fun s => Φ (2, s)) := by
  rw [bigSep_univ_prod]; exact bigSep_univ_eq_bigSepL [0, 1, 2] (by decide) (by decide) _
omit [FloatOps F] in
theorem bigSep_slots4 (Φ : Fin 4 × Fin 2 → sProp 𝕄) :
    bigSep Finset.univ Φ = iprop((bigSep Finset.univ fun s => Φ (0, s)) ∗ (bigSep Finset.univ fun s => Φ (1, s))
      ∗ (bigSep Finset.univ fun s => Φ (2, s)) ∗ bigSep Finset.univ fun s => Φ (3, s)) := by
  rw [bigSep_univ_prod]; exact bigSep_univ_eq_bigSepL [0, 1, 2, 3] (by decide) (by decide) _
omit [FloatOps F] in
theorem bigSep_slots6 (Φ : Fin 6 × Fin 2 → sProp 𝕄) :
    bigSep Finset.univ Φ = iprop((bigSep Finset.univ fun s => Φ (0, s)) ∗ (bigSep Finset.univ fun s => Φ (1, s))
      ∗ (bigSep Finset.univ fun s => Φ (2, s)) ∗ (bigSep Finset.univ fun s => Φ (3, s))
      ∗ (bigSep Finset.univ fun s => Φ (4, s)) ∗ bigSep Finset.univ fun s => Φ (5, s)) := by
  rw [bigSep_univ_prod]; exact bigSep_univ_eq_bigSepL [0, 1, 2, 3, 4, 5] (by decide) (by decide) _

/-- The two halves of a slot, each held with the same share. -/
abbrev pair (m : Fin 2 → Memref sig .tc .vmem S512x256 .bf16) (q : PosShare TreeShare) : sProp 𝕄 :=
  bigSep Finset.univ fun s => room (F := F) c (m s) q

theorem pair_join (m : Fin 2 → Memref sig .tc .vmem S512x256 .bf16) :
    iprop(pair (F := F) c m (PosShare.left fullShare) ∗ pair c m (PosShare.right fullShare)) ⊢ pair c m fullShare := by
  rw [← bigSep_sep']
  exact bigSep_mono fun s _ => room_join c (m s)

theorem emps : (iprop(emp) : sProp 𝕄) ⊢ bigSep Finset.univ fun _ : Fin 2 => iprop(emp) :=
  Entails.of_eq (bigSep_emp_const _).symm

/-- The three buffers of one direction. -/
def dirSpace (d : Bool) : sProp 𝕄 :=
  iprop(space c (K.snd d) ∗ space c (K.rs d) ∗ space c (K.ag d))

/-- They are the landing places of the direction's hops, with what its first four sources are, -/
theorem dirSpace_cut (d : Bool) :
    dirSpace (F := F) c d ⊢ iprop((bigSep Finset.univ fun p : Fin 6 × Fin 2 => room c (dst (p.1, d, p.2)) fullShare)
      ∗ bigSep Finset.univ fun p : Fin 6 × Fin 2 => if p.1.val ≤ 3 then room c (src (p.1, d, p.2)) fullShare else iprop(emp)) := by
  unfold dirSpace
  rw [bigSep_slots6, bigSep_slots6]
  iintro ⟨Hs, Hr, Ha⟩
  ihave Hs := (space_cut c (K.snd d) (by cases d <;> exact View.set_whole _)) $$ Hs
  ihave Hr := (space_cut c (K.rs d) (by cases d <;> exact View.set_whole _)) $$ Hr
  ihave Ha := (space_cut c (K.ag d) (by cases d <;> exact View.set_whole _)) $$ Ha
  ihave Hs := (Entails.of_eq (bigSep_slots3 _)) $$ Hs
  ihave Hr := (Entails.of_eq (bigSep_slots3 _)) $$ Hr
  ihave Ha := (Entails.of_eq (bigSep_slots4 _)) $$ Ha
  icases Hs with ⟨S0, S1, S2⟩
  icases Hr with ⟨R0, R1, R2⟩
  icases Ha with ⟨A0, A1, A2, A3⟩
  isplitl [R0 R1 R2 A1 A2 A3]
  · isplitl [R0]; · iexact R0
    isplitl [R1]; · iexact R1
    isplitl [R2]; · iexact R2
    isplitl [A1]; · iexact A1
    isplitl [A2]; · iexact A2
    iexact A3
  · isplitl [S0]; · iexact S0
    isplitl [S1]; · iexact S1
    isplitl [S2]; · iexact S2
    isplitl [A0]; · iexact A0
    isplitl []
    · iapply emps; iempintro
    · iapply emps; iempintro

/-- and once every hop is over, they are whole again. -/
theorem dirSpace_join (d : Bool) :
    iprop((bigSep Finset.univ fun p : Fin 6 × Fin 2 => room (F := F) c (dst (p.1, d, p.2)) (keepShare (p.1, d, p.2)))
      ∗ bigSep Finset.univ fun p : Fin 6 × Fin 2 => room (F := F) c (src (p.1, d, p.2)) (hopShare (p.1, d, p.2))) ⊢ dirSpace c d := by
  unfold dirSpace
  rw [bigSep_slots6, bigSep_slots6]
  iintro ⟨⟨R0, R1, R2, A1, A2, A3⟩, ⟨S0, S1, S2, A0, B1, B2⟩⟩
  ihave A1 := (pair_join (F := F) c (fun s => slot (K.ag d) 1 s)) $$ [A1 B1]
  · isplitl [B1]
    · iapply (Entails.of_eq (show (bigSep Finset.univ fun s : Fin 2 => room (F := F) c (src (4, d, s)) (hopShare (4, d, s))) = _ from rfl)); iexact B1
    · iapply (Entails.of_eq (show (bigSep Finset.univ fun s : Fin 2 => room (F := F) c (dst (3, d, s)) (keepShare (3, d, s))) = _ from rfl)); iexact A1
  ihave A2 := (pair_join (F := F) c (fun s => slot (K.ag d) 2 s)) $$ [A2 B2]
  · isplitl [B2]
    · iapply (Entails.of_eq (show (bigSep Finset.univ fun s : Fin 2 => room (F := F) c (src (5, d, s)) (hopShare (5, d, s))) = _ from rfl)); iexact B2
    · iapply (Entails.of_eq (show (bigSep Finset.univ fun s : Fin 2 => room (F := F) c (dst (4, d, s)) (keepShare (4, d, s))) = _ from rfl)); iexact A2
  isplitl [S0 S1 S2]
  · iapply (space_join c (K.snd d) (by cases d <;> exact View.set_whole _) (by cases d <;> exact fun _ => (FloatOps.ofBits .bf16 0 : F .bf16)))
    iapply (Entails.of_eq (bigSep_slots3 _).symm)
    isplitl [S0]; · iexact S0
    isplitl [S1]; · iexact S1
    iexact S2
  isplitl [R0 R1 R2]
  · iapply (space_join c (K.rs d) (by cases d <;> exact View.set_whole _) (by cases d <;> exact fun _ => (FloatOps.ofBits .bf16 0 : F .bf16)))
    iapply (Entails.of_eq (bigSep_slots3 _).symm)
    isplitl [R0]; · iexact R0
    isplitl [R1]; · iexact R1
    iexact R2
  · iapply (space_join c (K.ag d) (by cases d <;> exact View.set_whole _) (by cases d <;> exact fun _ => (FloatOps.ofBits .bf16 0 : F .bf16)))
    iapply (Entails.of_eq (bigSep_slots4 _).symm)
    isplitl [A0]; · iexact A0
    isplitl [A1]; · iexact A1
    isplitl [A2]; · iexact A2
    iexact A3

end Cert.Proof

end
-- ==== Proof.Output.lean ====
/-
  The output as one array: the sixteen blocks that the four lanes write cover it.
-/
module

public import proofs.«01_k».proof.Proof.Places

@[expose] public section

noncomputable section

namespace Cert.Proof

open Cert.KernelIdeal Cert.KernelIdeal.Gen

open Idealize.ShloMosaic
open Idealize.ShloMosaic.TcCoe

variable {F : FTy → Type} [FloatOps F]
variable (T : Dev nD → Vec F S2048x1024 .f32) (c : Dev nD)

/-- The lane that writes column `b`: its direction -/
def dirAt (b : ℕ) : Bool := decide (b < 512)
set_option backward.proofsInPublic true in
/-- and its half. -/
def halfAt (b : ℕ) : Fin 2 := ⟨b % 512 / 256, by omega⟩
set_option backward.proofsInPublic true in
/-- The number with which that lane of device `c` writes the chunk of rows `r`. -/
def turnAt (d : Bool) (r : ℕ) : Fin 4 := ⟨(if d then c.val + 5 - r else r + 5 - c.val) % 4, Nat.mod_lt _ (by decide)⟩

theorem rowOf_turnAt (d : Bool) (r : Fin 4) : rowOf c d (turnAt c d r.val) = r.val := by
  revert c d r; decide

set_option backward.proofsInPublic true in
/-- Where index `y` of the output lies in its block. -/
def within (y : S2048x1024.Idx) : S512x256.Idx := fun a =>
  ⟨(![(y 0).val % 512, (y 1).val % 256] : Fin 2 → ℕ) a, by
    fin_cases a
    · exact Nat.mod_lt (y 0).val (show 0 < 512 by decide)
    · exact Nat.mod_lt (y 1).val (show 0 < 256 by decide)⟩

/-- The output of device `c`. -/
def outAt (y : S2048x1024.Idx) : F .f32 :=
  outVal T c (dirAt (y 1).val) (halfAt (y 1).val) (turnAt c (dirAt (y 1).val) ((y 0).val / 512)) (within y)

/-- Index `y` lies where its block says. -/
theorem emb_within (y : S2048x1024.Idx) :
    (blockRect (outOff c (dirAt (y 1).val) (halfAt (y 1).val) (turnAt c (dirAt (y 1).val) ((y 0).val / 512)))
      (outOff_inb c (dirAt (y 1).val) (halfAt (y 1).val) (turnAt c (dirAt (y 1).val) ((y 0).val / 512)))).emb (within y) = y := by
  have h0 : (y 0).val < 2048 := (y 0).isLt
  have h1 : (y 1).val < 1024 := (y 1).isLt
  have hr := rowOf_turnAt c (dirAt (y 1).val) ⟨(y 0).val / 512, by omega⟩
  funext a
  refine Fin.ext ?_
  rw [Rect.emb_apply]
  show outOff c _ _ _ a + 1 * (within y a).val = (y a).val
  rw [outOff_eq]
  fin_cases a
  · show 512 * rowOf c _ _ + 1 * ((y 0).val % 512) = (y 0).val
    rw [hr]
    show 512 * ((y 0).val / 512) + 1 * ((y 0).val % 512) = (y 0).val
    omega
  · show (if dirAt (y 1).val = true then 0 else 512) + 256 * ((y 1).val % 512 / 256) + 1 * ((y 1).val % 256) = (y 1).val
    unfold dirAt
    by_cases h : (y 1).val < 512
    · simp only [h, decide_true, if_true]; omega
    · simp only [h, decide_false]; simp; omega

/-- Once every step is over, the output is `outAt`. -/
theorem Done.eq {g : Vec F S2048x1024 .f32} (h : Done T c [] g) : g = outAt T c := by
  funext y
  have e := congrFun (h (turnAt c (dirAt (y 1).val) ((y 0).val / 512)) (dirAt (y 1).val) (halfAt (y 1).val) List.not_mem_nil) (within y)
  unfold blk at e
  rw [emb_within c y] at e
  exact e

end Cert.Proof

end
-- ==== Proof.Run.lean ====
/-
  The whole program: what the launch gives every device, the body between two states of the memory,
  and the run of the four devices together.
-/
module

public import proofs.«01_k».proof.Proof.Output
public import Idealize.ShloMosaic.Lib.Pipeline.Kit

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The semaphores of a device -/

/-- The semaphores of the hops. -/
abbrev hopSem (p : Bool × Hop) : SemLoc sig := .dma (if p.1 then rcvSem p.2 else sndSem p.2)

theorem hopSem_decode : ∀ p : Bool × Hop, decode (if p.1 then rcvSem p.2 else sndSem p.2) = some p
  | (true, i) => decode_rcv i
  | (false, i) => decode_snd i

theorem hopSem_inj : Function.Injective hopSem := fun p p' h => by
  injection h with h
  exact Option.some.inj ((hopSem_decode p).symm.trans ((congrArg decode h).trans (hopSem_decode p')))

set_option maxRecDepth 8000 in
theorem hopSem_scoped : ∀ p : Bool × Hop, (hopSem p).isScoped .tc = true := by decide

theorem stage_decode : ∀ (w : Fin cfg0.W) (s : Fin (cfg0.spec w).nbuf), decode ((cfg0.spec w).sem s) = none := by
  intro w s; fin_cases w <;> fin_cases s <;> decide

theorem ownSemFacts : Pipeline.OwnSemFacts cfg0.spec hopSem where
  isScoped := hopSem_scoped
  inj := hopSem_inj
  disj p w s h := by
    injection h with h
    have e := (hopSem_decode p).symm.trans ((congrArg decode h).trans (stage_decode w s))
    cases e

theorem cellAt_hop (c : Dev nD) (p : Bool × Hop) : cellAt (c, some p) = ((c : Thread nD τ), hopSem p) := by
  obtain ⟨b, i⟩ := p; cases b <;> rfl

theorem cellAt_inj : Function.Injective (cellAt : Dev nD × Own → GSem nD τ sig) := by
  rintro ⟨c, o⟩ ⟨c', o'⟩ h
  have dev : ∀ (c : Dev nD) (o : Own), (cellAt (c, o)).1.1 = c := fun c o => by
    rcases o with _ | ⟨b, i⟩
    · rfl
    · cases b <;> rfl
  have hc : c = c' := (dev c o).symm.trans ((congrArg (fun g : GSem nD τ sig => g.1.1) h).trans (dev c' o'))
  subst hc
  have hs : (cellAt (c, o)).2 = (cellAt (c, o')).2 := congrArg Prod.snd h
  rcases o with _ | p <;> rcases o' with _ | p'
  · rfl
  · rw [cellAt_hop] at hs; cases hs
  · rw [cellAt_hop] at hs; cases hs
  · rw [cellAt_hop, cellAt_hop] at hs; rw [hopSem_inj hs]

omit [FloatOps F] in
/-- A family over something or nothing. -/
theorem bigSep_option {I : Type} [Fintype I] [DecidableEq I] (Φ : Option I → sProp 𝕄) :
    bigSep Finset.univ Φ = iprop(Φ none ∗ bigSep Finset.univ fun i => Φ (some i)) := by
  have e : (Finset.univ : Finset (Option I)) = insert none (Finset.univ.map Function.Embedding.some) := by
    ext o; cases o <;> simp
  rw [e, bigSep_put (by simp), bigSep_map]; rfl

omit [FloatOps F] in
/-- A family over a device's semaphores: the barrier, the receive semaphores and the send semaphores. -/
theorem bigSep_own (Φ : Own → sProp 𝕄) :
    bigSep Finset.univ Φ = iprop(Φ none ∗ (bigSep Finset.univ fun i => Φ (some (true, i))) ∗ bigSep Finset.univ fun i => Φ (some (false, i))) := by
  rw [bigSep_option, bigSep_univ_prod (fun p : Bool × Hop => Φ (some p)), bigSep_dirs]

omit [FloatOps F] in
theorem ownSems0_eq (c : Dev nD) : (Pipeline.ownSems0 (Ix := Unit) (Name := ℕ) (U := UU) (Lvl := ℕ) (Val := Elt F) (τ := τ) hopSem c : sProp 𝕄)
    = iprop((bigSep Finset.univ fun i => semVal (rcvCell c i) 0) ∗ bigSep Finset.univ fun i => semVal (sndCell c i) 0) := by
  unfold Pipeline.ownSems0
  rw [bigSep_univ_prod (fun p : Bool × Hop => (semVal ((c.tc : Thread nD τ), hopSem p) 0 : sProp 𝕄)), bigSep_dirs]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All of a device's semaphores at zero. -/
theorem sems_zero (c : Dev nD) :
    iprop(Pipeline.ownSems0 (Ix := Unit) (Name := ℕ) (U := UU) (Lvl := ℕ) (Val := Elt F) (τ := τ) hopSem c ∗ unscopedSems0 c)
      ⊢ (bigSep Finset.univ fun o : Own => semVal (cellAt (c, o)) 0 : sProp 𝕄) := by
  rw [ownSems0_eq, unscopedSems0_eq, bigSep_own]
  iintro ⟨H, HB⟩
  isplitl [HB]; · iexact HB
  iexact H

/-! ## The launch's tokens -/

/-- A duty of a device's semaphores: `none` is the barrier's from its predecessor. -/
def dutyAt : Dev nD × Option Own → GSem nD τ sig × ℕ × Bool
  | (c, none) => (barCell c, 0, false)
  | (c, some o) => (cellAt (c, o), 0, true)

theorem dutyAt_inj : Function.Injective dutyAt := by
  rintro ⟨c, o⟩ ⟨c', o'⟩ h
  rcases o with _ | o <;> rcases o' with _ | o'
  · have := cellAt_inj (a₁ := (c, none)) (a₂ := (c', none)) (congrArg Prod.fst h)
    rw [show c = c' from (Prod.ext_iff.mp this).1]
  · exact absurd (congrArg (fun x : GSem nD τ sig × ℕ × Bool => x.2.2) h) Bool.false_ne_true
  · exact absurd (congrArg (fun x : GSem nD τ sig × ℕ × Bool => x.2.2) h).symm Bool.false_ne_true
  · have := cellAt_inj (a₁ := (c, o)) (a₂ := (c', o')) (congrArg Prod.fst h)
    rw [show c = c' from (Prod.ext_iff.mp this).1, show o = o' from (Prod.ext_iff.mp this).2]

/-- The semaphores, and their duties. -/
def allCells : Finset (GSem nD τ sig) := Finset.univ.map ⟨cellAt, cellAt_inj⟩
def allDuties : Finset (GSem nD τ sig × ℕ × Bool) := Finset.univ.map ⟨dutyAt, dutyAt_inj⟩

def u₀ : UU := (initOf (Pipeline.cells cfgs cellOf_inj) (Pipeline.launchToks cfgs cellOf_inj), initOf allCells allDuties)

section Launch

variable (T : Dev nD → Vec F S2048x1024 .f32) (c : Dev nD)

/-- The tokens of a device's own semaphores. -/
def minted : sProp 𝕄 :=
  bigSep Finset.univ fun o : Option Own => dutyTok ER (dutyAt (c, o)).1 (dutyAt (c, o)).2.1 (dutyAt (c, o)).2.2

/-- What the launch makes for a device. -/
def made : sProp 𝕄 :=
  iprop((bigSep Finset.univ fun o : Own => roundState ER (Rd T) (cellAt (c, o)) 0)
    ∗ (bigSep Finset.univ fun o : Own => atPos ER (cellAt (c, o)) 0 ∅ 0) ∗ (bigSep Finset.univ fun o : Own => reached ER (cellAt (c, o)) 0)
    ∗ minted c)

theorem fund : BI.own (ER (initOf allCells allDuties)) ⊢ (|==> bigSep Finset.univ (made T) : sProp 𝕄) := by
  have hX (Φ : GSem nD τ sig → sProp 𝕄) : bigSep allCells Φ = bigSep Finset.univ fun c : Dev nD => bigSep Finset.univ fun o : Own => Φ (cellAt (c, o)) := by
    unfold allCells; rw [bigSep_map, bigSep_univ_prod]; rfl
  have hT : bigSep allDuties (fun x => (dutyTok ER x.1 x.2.1 x.2.2 : sProp 𝕄)) = bigSep Finset.univ fun c : Dev nD => minted c := by
    unfold allDuties; rw [bigSep_map, bigSep_univ_prod]; rfl
  iintro HX
  imod (Rounds.fund ER (Rd T) allCells allDuties) $$ HX with ⟨Hst, Hr, Hat, Htok⟩
  imodintro
  ihave Hst := (Entails.of_eq (hX fun g => roundState ER (Rd T) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold made; simp only [bigSep_sep']
  isplitl [Hst]; · iexact Hst
  isplitl [Hat]; · iexact Hat
  isplitl [Hr]; · iexact Hr
  iexact Htok

/-- The semaphores' state goes under an invariant. -/
theorem share_cells :
    iprop(Pipeline.ownSems0 (Ix := Unit) (Name := ℕ) (U := UU) (Lvl := ℕ) (Val := Elt F) (τ := τ) hopSem c ∗ unscopedSems0 c ∗ made T c)
      ⊢ |={Set.univ}=> iprop((bigSep Finset.univ fun o : Own => iprop(∃ κ : ℕ, cellInv ER (Rd T) κ (cellAt (c, o))))
          ∗ (bigSep Finset.univ fun o : Own => atPos ER (cellAt (c, o)) 0 ∅ 0) ∗ (bigSep Finset.univ fun o : Own => reached ER (cellAt (c, o)) 0)
          ∗ minted c) := by
  unfold made
  iintro ⟨Hos, Hus, Hst, Hat, Hr, Htok⟩
  ihave Hv := (sems_zero (F := F) c) $$ [Hos Hus]
  · isplitl [Hos] <;> iassumption
  imod (show iprop((bigSep Finset.univ fun o : Own => semVal (cellAt (c, o)) 0) ∗ bigSep Finset.univ fun o : Own => roundState ER (Rd T) (cellAt (c, o)) 0)
      ⊢ (|={Set.univ}=> bigSep Finset.univ fun o : Own => iprop(∃ κ : ℕ, cellInv ER (Rd T) κ (cellAt (c, o))) : sProp 𝕄) from by
        rw [← bigSep_sep']
        exact (bigSep_mono fun o _ => (Rounds.body_intro ER (Rd T) (cellAt (c, o))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- What everybody knows of the semaphores. -/
def records (ν : Dev nD × Own → ℕ) : sProp 𝕄 :=
  iprop((bigSep Finset.univ fun p : Dev nD × Own => cellInv ER (Rd T) (ν p) (cellAt p))
    ∗ bigSep Finset.univ fun p : Dev nD × Own => reached ER (cellAt p) 0)

instance records_persistent (ν) : BI.Persistent (records (F := F) T ν) := by unfold records; infer_instance

/-- The tokens of the duties that a device pays. -/
def toPay : sProp 𝕄 :=
  iprop((dutyTok ER (barCell (nxt c)) 0 false ∗ dutyTok ER (barCell (prv c)) 0 true)
    ∗ (bigSep Finset.univ fun i : Hop => dutyTok ER (rcvCell (ahead i.2.1 c) i) 0 true) ∗ bigSep Finset.univ fun i : Hop => dutyTok ER (sndCell c i) 0 true)

/-- What only the device itself holds. -/
def held : sProp 𝕄 := iprop((bigSep Finset.univ fun o : Own => atPos ER (cellAt (c, o)) 0 ∅ 0) ∗ toPay c)

omit [FloatOps F] in
/-- The tokens, dealt from a semaphore's owner to the device that pays the duty. -/
theorem minted_toPay : (bigSep Finset.univ fun c : Dev nD => (minted c : sProp 𝕄)) ⊢ bigSep Finset.univ fun c : Dev nD => toPay c := by
  have hm : ∀ c : Dev nD, (minted c : sProp 𝕄) = iprop(dutyTok ER (barCell c) 0 false ∗ dutyTok ER (barCell c) 0 true
      ∗ (bigSep Finset.univ fun i : Hop => dutyTok ER (rcvCell c i) 0 true) ∗ bigSep Finset.univ fun i : Hop => dutyTok ER (sndCell c i) 0 true) := fun c => by
    unfold minted; rw [bigSep_option, bigSep_own]; rfl
  have hr : (bigSep Finset.univ fun c : Dev nD => bigSep Finset.univ fun i : Hop => (dutyTok ER (rcvCell c i) 0 true : sProp 𝕄))
      = bigSep Finset.univ fun c : Dev nD => bigSep Finset.univ fun i : Hop => dutyTok ER (rcvCell (ahead i.2.1 c) i) 0 true := by
    rw [bigSep_univ_comm, bigSep_univ_comm (fun (c : Dev nD) (i : Hop) => (dutyTok ER (rcvCell (ahead i.2.1 c) i) 0 true : sProp 𝕄))]
    exact bigSep_congr fun i _ => bigSep_univ_equiv (turnRing i.2.1) _
  unfold toPay
  rw [bigSep_congr (s := Finset.univ) fun (c : Dev nD) _ => hm c]
  rw [bigSep_sep', bigSep_sep', bigSep_sep', bigSep_sep', bigSep_sep', bigSep_sep', hr,
    bigSep_univ_equiv (turnRing true) (fun c : Dev nD => (dutyTok ER (barCell c) 0 false : sProp 𝕄)),
    bigSep_univ_equiv (turnRing false) (fun c : Dev nD => (dutyTok ER (barCell c) 0 true : sProp 𝕄))]
  iintro ⟨H1, H2, H3, H4⟩
  isplitl [H1 H2]
  · isplitl [H1]; · iexact H1
    iexact H2
  isplitl [H3]; · iexact H3
  iexact H4

/-- What the launch leaves a device. -/
def dealt : sProp 𝕄 := iprop(∃ ν, records T ν ∗ held c)

theorem regroup :
    (bigSep Finset.univ fun c : Dev nD => iprop((bigSep Finset.univ fun o : Own => iprop(∃ κ : ℕ, cellInv ER (Rd T) κ (cellAt (c, o))))
          ∗ (bigSep Finset.univ fun o : Own => atPos ER (cellAt (c, o)) 0 ∅ 0) ∗ (bigSep Finset.univ fun o : Own => reached ER (cellAt (c, o)) 0)
          ∗ minted c) : sProp 𝕄)
      ⊢ bigSep Finset.univ (dealt T) := by
  rw [bigSep_sep', bigSep_sep', bigSep_sep', ← bigSep_univ_prod (fun p : Dev nD × Own => iprop(∃ κ : ℕ, cellInv ER (Rd T) κ (cellAt p))),
    ← bigSep_univ_prod (fun p : Dev nD × Own => (reached ER (cellAt p) 0 : sProp 𝕄))]
  iintro ⟨HI, Hat, #HR, Htok⟩
  ihave HK := (BI.bigSep_exists_pi Finset.univ (fun (p : Dev nD × Own) (κ : ℕ) => (cellInv ER (Rd T) κ (cellAt p) : sProp 𝕄))) $$ HI
  icases HK with ⟨%ν, #HI⟩
  ihave Htk := (minted_toPay (F := F)) $$ Htok
  have hd : ∀ c : Dev nD, iprop(records T ν ∗ held c) ⊢ (dealt T c : sProp 𝕄) := fun c => by
    unfold dealt; iintro H; iexists ν; iexact H
  have hh : iprop((bigSep Finset.univ fun c : Dev nD => bigSep Finset.univ fun o : Own => (atPos ER (cellAt (c, o)) 0 ∅ 0 : sProp 𝕄))
      ∗ bigSep Finset.univ fun c : Dev nD => toPay c) ⊢ bigSep Finset.univ fun c : Dev nD => held (F := F) c := by
    unfold held; rw [bigSep_sep']
  have hw : iprop(records T ν ∗ bigSep Finset.univ fun c : Dev nD => held (F := F) c) ⊢ bigSep Finset.univ (dealt T) :=
    bigSep_with_persistent fun c _ => hd c
  iapply hw
  isplitr
  · unfold records; isplitl; · iexact HI
    iexact HR
  iapply hh
  isplitl [Hat]; · iexact Hat
  iexact Htk

/-- The launch's one step for all the devices together. -/
theorem start_all : (bigSep Finset.univ fun c => iprop(Pipeline.ownSems0 (Ix := Unit) (Name := ℕ) (U := UU) (Lvl := ℕ) (Val := Elt F) (τ := τ) hopSem c
      ∗ unscopedSems0 c ∗ made T c) : sProp 𝕄)
    ⊢ |={Set.univ}=> bigSep Finset.univ (dealt T) :=
  ((bigSep_mono fun c _ => share_cells T c).trans (bigSep_fupd _ _)).trans (BI.fupd_mono (regroup T))

/-! ## The launch's credits -/

omit [FloatOps F] in
/-- What is owed for a list of steps is credited, hop by hop, to the receivers. -/
theorem credits_steps : ∀ l : List Step, l.Nodup → (Pipeline.launchCred (fun d => owed d l) c : sProp 𝕄)
    ⊢ bigSep l.toFinset fun a => (sends a).elim iprop(emp) fun i => cred (tallyAt (rcvCell c i) () N)
  | [], _ => by
    rw [List.toFinset_nil, bigSep_empty]
    exact Entails.of_eq (Pipeline.launchCred_zero c)
  | a :: l, hn => by
    have ha : a ∉ l.toFinset := fun h => (List.nodup_cons.mp hn).1 (List.mem_toFinset.mp h)
    have hone : (Pipeline.launchCred (fun d => owesHop d (sends a)) c : sProp 𝕄)
        ⊢ (sends a).elim iprop(emp) fun i => cred (tallyAt (rcvCell c i) () N) := by
      cases sends a with
      | none => exact Entails.of_eq (Pipeline.launchCred_zero c)
      | some i => exact Pipeline.launchCred_tallyAt (.dma (rcvSem i)) (ahead i.2.1) (behind i.2.1) (ahead_behind i.2.1) (behind_ahead i.2.1) () N c
    rw [List.toFinset_cons, bigSep_put ha]
    iintro H
    ihave H := (Entails.of_eq (show (Pipeline.launchCred (fun d => owed d (a :: l)) c : sProp 𝕄) = _ from
      Pipeline.launchCred_add (fun d => owed d l) (fun d => owesHop d (sends a)) c)) $$ H
    icases H with ⟨Hl, Ha⟩
    isplitl [Ha]; · iapply hone; iexact Ha
    iapply (credits_steps l (List.nodup_cons.mp hn).2); iexact Hl

omit [FloatOps F] in
theorem credits : (Pipeline.launchCred owed₀ c : sProp 𝕄)
    ⊢ iprop(cred (tallyAt (barCell c) () 2) ∗ bigSep Finset.univ fun i : Hop => cred (tallyAt (rcvCell c i) () N)) := by
  have hs := credits_steps (F := F) c steps steps_nodup
  rw [steps_all] at hs
  have hg := gather (F := F) sends senderStep sends_sender (fun i : Hop => (cred (tallyAt (rcvCell c i) () N) : sProp 𝕄))
  iintro H
  ihave H := (Entails.of_eq (show (Pipeline.launchCred owed₀ c : sProp 𝕄) = _ from
    Pipeline.launchCred_add owed₁ (fun d => tallyAt (barCell (prv d)) () 1) c)) $$ H
  icases H with ⟨H, Hp⟩
  ihave H := (Entails.of_eq (show (Pipeline.launchCred owed₁ c : sProp 𝕄) = _ from
    Pipeline.launchCred_add (fun d => owed d steps) (fun d => tallyAt (barCell (nxt d)) () 1) c)) $$ H
  icases H with ⟨Hs, Hn⟩
  ihave Hs := hs $$ Hs
  ihave Hs := hg $$ Hs
  ihave Hn := (Pipeline.launchCred_tallyAt (SemLoc.reg barS) nxt prv (ahead_behind true) (behind_ahead true) () 1 c) $$ Hn
  ihave Hp := (Pipeline.launchCred_tallyAt (SemLoc.reg barS) prv nxt (ahead_behind false) (behind_ahead false) () 1 c) $$ Hp
  isplitl [Hn Hp]
  · rw [← tallyAt_add (barCell c) () 1 1]
    iapply (cred_add _ _).2
    isplitl [Hn]; · iexact Hn
    iexact Hp
  iexact Hs

/-- Before the body. -/
def started : sProp 𝕄 :=
  iprop(dealt T c ∗ cred (tallyAt (barCell c) () 2) ∗ (bigSep Finset.univ fun i : Hop => cred (tallyAt (rcvCell c i) () N)) ∗ levAts L lv)

/-- The scratch buffers are the two directions' buffers. -/
theorem scratch_dirs : (Pipeline.scopedRest (Ix := Unit) (Name := ℕ) (U := UU) (Lvl := ℕ) (Val := Elt F) cfg0.spec c : sProp 𝕄)
    ⊢ iprop(dirSpace c true ∗ dirSpace c false) := by
  rw [scopedRest0_eq]
  unfold dirSpace space
  iintro ⟨H0, H1, H2, H3, H4, H5⟩
  isplitl [H0 H2 H4]
  · isplitl [H0]; · iexact H0
    isplitl [H2]; · iexact H2
    iexact H4
  · isplitl [H1]; · iexact H1
    isplitl [H3]; · iexact H3
    iexact H5
theorem dirs_scratch : iprop(dirSpace c true ∗ dirSpace c false)
    ⊢ (Pipeline.scopedRest (Ix := Unit) (Name := ℕ) (U := UU) (Lvl := ℕ) (Val := Elt F) cfg0.spec c : sProp 𝕄) := by
  rw [scopedRest0_eq]
  unfold dirSpace space
  iintro ⟨⟨H0, H2, H4⟩, H1, H3, H5⟩
  isplitl [H0]; · iexact H0
  isplitl [H1]; · iexact H1
  isplitl [H2]; · iexact H2
  isplitl [H3]; · iexact H3
  isplitl [H4]; · iexact H4
  iexact H5

/-- With the scratch buffers that is what the body starts with. -/
theorem started_atStart :
    iprop(started T c ∗ Pipeline.scopedRest (Ix := Unit) (Name := ℕ) (U := UU) (Lvl := ℕ) (Val := Elt F) cfg0.spec c) ⊢ iprop(∃ ν, atStart T ν c) := by
  unfold started dealt held toPay
  rw [bigSep_own]
  iintro ⟨⟨⟨%ν, #HR, ⟨⟨Hb, Hr, Hs⟩, ⟨Htn, Htp⟩, Htr, Hts⟩⟩, Hcb, Hcr, #Hlv⟩, Hscr⟩
  ihave Hscr := (scratch_dirs (F := F) c) $$ Hscr
  icases Hscr with ⟨Hu, Hv⟩
  ihave Hu := (dirSpace_cut (F := F) c true) $$ Hu
  ihave Hv := (dirSpace_cut (F := F) c false) $$ Hv
  icases Hu with ⟨Hud, Hus⟩
  icases Hv with ⟨Hvd, Hvs⟩
  iexists ν
  unfold atStart barStart
  isplitr
  · unfold world records
    icases HR with ⟨#HI, #HR⟩
    isplitr; · iexact HI
    isplitr; · iexact HR
    iexact Hlv
  isplitl [Hb Hcb Htn Htp]
  · isplitl [Hb]; · iexact Hb
    isplitl [Hcb]; · iexact Hcb
    isplitl [Htp]; · iexact Htp
    iexact Htn
  isplitl [Hud Hvd]
  · rw [bigSep_hops, bigSep_dirs]
    isplitl [Hud]; · iexact Hud
    iexact Hvd
  isplitl [Hs Hts Htr Hus Hvs]
  · unfold armed
    rw [bigSep_sep', bigSep_sep', bigSep_sep']
    isplitl [Hs]; · iexact Hs
    isplitl [Hts]; · iexact Hts
    isplitl [Htr]; · iexact Htr
    rw [bigSep_hops, bigSep_dirs]
    isplitl [Hus]; · iexact Hus
    iexact Hvs
  · unfold coming
    rw [bigSep_sep']
    isplitl [Hr]; · iexact Hr
    iexact Hcr

/-- What the body ends with: the semaphores at zero and the scratch buffers. -/
theorem atEnd_elim : atEnd (F := F) c ⊢ iprop(unscopedSems0 c ∗ Pipeline.ownSems0 hopSem c ∗ Pipeline.scopedRest cfg0.spec c) := by
  rw [ownSems0_eq, unscopedSems0_eq]
  unfold atEnd landed spent
  rw [bigSep_sep', bigSep_sep', bigSep_hops (fun i : Hop => room (F := F) c (dst i) (keepShare i)), bigSep_dirs,
    bigSep_hops (fun i : Hop => room (F := F) c (src i) (hopShare i)), bigSep_dirs]
  iintro ⟨Hb, ⟨Hr, Hud, Hvd⟩, Hs, Hus, Hvs⟩
  isplitl [Hb]; · iexact Hb
  isplitl [Hr Hs]
  · isplitl [Hr] <;> iassumption
  iapply (dirs_scratch (F := F) c)
  isplitl [Hud Hus]
  · iapply (dirSpace_join (F := F) c true)
    isplitl [Hud] <;> iassumption
  · iapply (dirSpace_join (F := F) c false)
    isplitl [Hvd] <;> iassumption

end Launch

end Cert.Proof

end
-- ==== Proof.Main.lean ====
/-
  The run of the whole program on the four devices, for any float values.
-/
module

public import proofs.«01_k».proof.Proof.Run
public import Idealize.ShloMosaic.Lib.Pipeline.CollectiveSegs

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at the start, with every semaphore at zero. -/
abbrev st₀ : MemSt nD τ sig (Elt F) := ⟨m, fun _ => 0, ρ⟩

/-- A device's input. -/
def inp (c : Dev nD) : Vec F S2048x1024 .f32 := (win0_0.blk t0_0).view.read (Elt F) (m ((c : Thread nD τ).loc main_arg0))

/-- The two windows' contents before and after the body, and what the body needs and leaves besides. -/
def dats (_ : Fin 1) (c : Dev nD) : Dat τ (Elt F) Unit ℕ UU ℕ cfg0 c where
  A w := m ((cfg0.win w).arr.view.loc (c : Thread nD τ))
  after w _ := match w with
    | ⟨0, _⟩ => inp m c
    | ⟨1, _⟩ => outAt (inp m) c
  Φ t := match t with
    | ⟨0, _⟩ => iprop(started (inp m) c ∗ Pipeline.scopedRest cfg0.spec c)
    | ⟨_ + 1, _⟩ => atEnd c
  q _ := fullShare
  owed t := match t with
    | ⟨0, _⟩ => owed₀ c
    | ⟨_ + 1, _⟩ => 0

omit [FloatOps F] in
/-- A whole buffer that reads `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer that holds `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop((dats m 0 c).Φ t0_0.castSucc ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))

def bodyPost (c : Dev nD) : sProp 𝕄 :=
  iprop((dats m 0 c).Φ t0_0.succ ∗ (dats m 0 c).owesAt () t0_0.succ
    ∗ staged c cc0_stg0_0 (inp m c) ∗ staged c cc0_stg1_0 (outAt (inp m) c))

/-- The kernel's body, of a device. -/
abbrev body : Prog (TpuEff nD τ sig (Elt F) Λ₀ .tc) PUnit :=
  cc0_body (Memref.whole cc0_stg0_0) (hstage0_0 0) (Memref.whole cc0_stg1_0) (hstage0_1 0)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13

theorem body_clean : (body : Prog (TpuEff nD τ sig (Elt F) Λ₀ .tc) PUnit) = Prog.lift .deviceId >>= fun c => clean K c := rfl

set_option maxHeartbeats 800000 in
theorem body_sound (c : Dev nD) : bodyPre m c ⊢ runs c body (fun _ => bodyPost m c) := by
  rw [body_clean]
  unfold runs
  simp only [Prog.lift, Prog.bind_op, Prog.bind_ret, Prog.pure_eq_ret, wp_deviceId]
  unfold bodyPre
  iintro ⟨HΦ, HO, ⟨%d0, %g0, %hg0, Hx⟩, ⟨%d1, %g1, %hg1, Hout⟩⟩
  have hx : g0 = inp m c := by rw [hg0]; unfold Dat.before; rw [if_pos (fetch0_0 t0_0)]; rfl
  subst hx
  unfold Dat.owesAt Pipeline.owesWithin
  icases HO with ⟨%W, -, HO⟩
  ihave HO := (Entails.of_eq (show (owes (c : Thread nD τ) ((dats m 0 c).owed t0_0.castSucc) W : sProp 𝕄) = owes (c : Thread nD τ) (owed₀ c) W from rfl)) $$ HO
  ihave HΦ := (Entails.of_eq (show (dats m 0 c).Φ t0_0.castSucc = iprop(started (inp m) c ∗ Pipeline.scopedRest cfg0.spec c) from rfl)) $$ HΦ
  ihave HΦ := (started_atStart (inp m) c) $$ HΦ
  icases HΦ with ⟨%ν, HS⟩
  have hr := clean_runs (inp m) ν c g1 W (fun _ => bodyPost m c)
  unfold runs at hr
  iapply hr $$ [HS HO Hx Hout]
  · isplitl [HS]; · iexact HS
    isplitl [HO]; · iexact HO
    isplitl [Hx]; · unfold tPts; iexact Hx
    iexact Hout
  unfold busy tPts outs
  iintro ⟨HE, ⟨%W', HO⟩, Hx, ⟨%g, %hg, Hout⟩⟩
  unfold bodyPost Dat.owesAt Pipeline.owesWithin
  isplitl [HE]
  · iapply (Entails.of_eq (show atEnd (F := F) c = (dats m 0 c).Φ t0_0.succ from rfl)); iexact HE
  isplitl [HO]
  · iexists W'
    isplitr; · ipureintro; exact fun _ _ => Or.inl trivial
    iapply (Entails.of_eq (show (owes (c : Thread nD τ) 0 W' : sProp 𝕄) = owes (c : Thread nD τ) ((dats m 0 c).owed t0_0.succ) W' from rfl)); iexact HO
  isplitl [Hx]
  · iexists _; isplitr; · (ipureintro; rfl)
    iexact Hx
  iexists _; isplitr; · (ipureintro; exact hg.eq (inp m) c)
  iexact Hout

set_option maxRecDepth 16000 in
/-- The body, in the form in which the launch asks for it. -/
theorem body_obligation (c : Dev nD) : BodyObligation (dats (F := F) m 0 c) (defs₀ (F := F)) Variants.none () Set.univ := fun t => by
  rw [fin_N0 t]
  have hW : ∀ Φ : Fin cfg0.W → sProp 𝕄, bigSep Finset.univ Φ = iprop(Φ (0 : Fin 2) ∗ Φ (1 : Fin 2)) := fun Φ => bigSep_W0 Φ
  rw [hW, hW]
  simp only [owns_whole]
  exact body_sound m c

theorem share_full (c : Dev nD) (w : Fin cfg0.W) : (dats m 0 c).share w = fullShare := by unfold Dat.share; split <;> rfl

theorem begin_dev (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt (inp m) c)
      ⊢ |={Set.univ}=> iprop(started (inp m) c ∗ emp) := by
  iintro ⟨-, Hlev, Hcr, -, HG⟩
  ihave Hc := (credits (F := F) c) $$ Hcr
  icases Hc with ⟨H1, HN⟩
  imodintro
  unfold started
  isplitl
  · isplitl [HG]; · iexact HG
    isplitl [H1]; · iexact H1
    isplitl [HN]; · iexact HN
    iexact Hlev
  · iempintro

theorem enter_dev (c : Dev nD) :
    iprop(started (inp m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(started (inp m) c ∗ Pipeline.scopedRest cfg0.spec c) from rfl]
  iintro ⟨Hs, -, Hr⟩
  isplitl [Hs] <;> iassumption

theorem leave_dev (c : Dev nD) :
    (dats m 0 c).Φ (Fin.last cfg0.N) ⊢ iprop(unscopedSems0 c ∗ Pipeline.ownSems0 hopSem c ∗ Pipeline.scopedRest cfg0.spec c) := by
  rw [show (dats m 0 c).Φ (Fin.last cfg0.N) = atEnd c from rfl]
  exact atEnd_elim c

theorem lv_stage (c : Dev nD) (w : Fin cfg0.W) (s : Fin (cfg0.spec w).nbuf) : lv ((c : Thread nD τ), .dma ((cfg0.spec w).sem s)) () = 0 := by
  dsimp only [lv]; rw [stage_decode]

theorem waits_dev (c : Dev nD) : (levAts L lv : sProp 𝕄) ⊢ Pipeline.cellsWaits cfgs (dats m) () 0 c :=
  Pipeline.cellsWaits_intro cfgs (dats m) () 0 c fun w s t =>
    mayWait_stage c _ (lv_stage c w s) _ (by
      rcases t with ⟨_ | _, ht⟩
      · exact Or.inl rfl
      · exact Or.inr rfl)

/-! ## The run -/

/-- The windows' arrays after the run. -/
def final (c : Dev nD) (w : Fin cfg0.W) : Buf (Elt F) ((cfg0.win w).arr.view.loc (c : Thread nD τ)) := (dats m 0 c).arrAt w cfg0.N

/-- Every device's arrays hold what the run leaves. -/
def AtFinal : PUnit × MemSt nD τ sig (Elt F) → Prop := fun r =>
  ∀ c : Dev nD, ∀ w : Fin cfg0.W, r.2.mem ((cfg0.win w).arr.view.loc (c : Thread nD τ)) = final m c w

set_option maxRecDepth 8000 in
/-- From any memory with every semaphore at zero the four devices' program ends, with the arrays at `final` and every
    semaphore at zero again. -/
theorem run_arrays : θ_run defs (onTc (τ := τ) (main (F := F))) (st₀ m ρ) (fun r => AtFinal m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owed₀) (howed₀ := fun _ => rfl) (howedN := fun _ => rfl)
    (L := L) (lv := lv) (hL := L_of_ne) (hwaits := waits_dev m)
    (G := made (inp m)) (G' := dealt (inp m)) (u₀ := u₀)
    (hu₀ := by
      unfold u₀
      iintro Hu
      ihave H := (ownU_pair _ _) $$ Hu
      icases H with ⟨HP, HX⟩
      ihave HX := (Entails.of_eq (show (BI.own (embR (initOf allCells allDuties)) : sProp 𝕄) = BI.own (ER (initOf allCells allDuties)) from rfl)) $$ HX
      imod (fund (inp m)) $$ HX with HG
      imodintro
      isplitl [HP]
      · iapply (Entails.of_eq (show (BI.own (embL (initOf (Pipeline.cells cfgs cellOf_inj) (Pipeline.launchToks cfgs cellOf_inj))) : sProp 𝕄)
          = BI.own (EP (initOf (Pipeline.cells cfgs cellOf_inj) (Pipeline.launchToks cfgs cellOf_inj))) from rfl)); iexact HP
      iexact HG)
    (hglob := start_all (inp m))
    (hA := fun _ _ => rfl) (hpf := fun _ k => k.elim0)
    (X := started (inp m)) (Y := fun c => unscopedSems0 c) (Z := fun _ => iprop(emp))
    (hX := begin_dev m ρ) (hin := enter_dev m) (hout := leave_dev m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input is left as it was. -/
theorem final_in (c : Dev nD) : final m c (0 : Fin 2) = m ((c : Thread nD τ).loc main_arg0) := (dats m 0 c).arrAt_in (0 : Fin 2) rfl _

theorem index_zero (w : Fin 2 → ℕ) (h : w = fun _ => 0) : (fun a => w a * S2048x1024.size a) = fun _ => 0 := by
  subst h; exact funext fun a => Nat.zero_mul _

/-- The result is the output of the body. -/
theorem final_out (c : Dev nD) : final m c (1 : Fin 2) = outAt (inp m) c := by
  unfold final
  rw [show cfg0.N = t0_0.val + 1 from N_0, (dats m 0 c).arrAt_succ (1 : Fin 2) t0_0,
    show (cfg0.win (1 : Fin 2)).flush t0_0 = true from flush0_1 t0_0, if_pos rfl]
  exact Memref.write_access_unit_zero_univ (Elt F) main_v1 (index_zero _ rfl) (fun a => by fin_cases a <;> decide) _ _

/-- The block that is read is the whole input. -/
theorem inp_eq (c : Dev nD) : inp m c = m ((c : Thread nD τ).loc main_arg0) :=
  Memref.read_access_unit_zero (Elt F) main_arg0 (index_zero _ rfl) (fun a => by fin_cases a <;> decide) _

/-- The run: the input is unchanged, the result is `outAt`, every semaphore is at zero. -/
theorem run_main : θ_run defs (onTc (τ := τ) (main (F := F))) (st₀ m ρ) (fun r =>
    (∀ c : Dev nD, r.2.mem ((c : Thread nD τ).loc main_arg0) = m ((c : Thread nD τ).loc main_arg0)
      ∧ r.2.mem ((c : Thread nD τ).loc main_v1) = outAt (inp m) c) ∧ r.2.sem = fun _ => 0) :=
  (θ_run defs _ _).mono (fun _ h => ⟨fun c => ⟨(h.1 c (0 : Fin 2)).trans (final_in m c), (h.1 c (1 : Fin 2)).trans (final_out m c)⟩, h.2⟩) (run_arrays m ρ)

end Cert.Proof

end
-- ==== Proof.Value.lean ====
/-
  What the kernel computes over the extended reals: on every device, index `y` of the output is `act`
  of the sum of the four devices' inputs at `y`.

  A change of format is the identity there, so a lane's running sum is the sum of the chunks of the
  devices it has passed; the chunks lie at the same offset on all of them.
-/
module

public import proofs.«01_k».proof.Proof.Output
public import Idealize.ShloMosaic.PureOps.Ideal
public import Idealize.ShloMosaic.Lib.Pointwise

@[expose] public section

noncomputable section

namespace Cert.Proof

open Cert.KernelIdeal Cert.KernelIdeal.Gen

open Idealize.ShloMosaic
open Idealize.ShloMosaic.TcCoe

/-- The activation, on the extended reals. -/
def act (s : EReal) : EReal := Ideal.tanh s * s * s + max s 0 * max s 0 * max s 0

/-! ## The payloads -/

theorem first_eq (v : Vec Ideal S512x256 .f32) : asRows (F := Ideal) (k0_pay1 v) = v := by
  show asRows (asSlot (F := Ideal) (truncf (F := Ideal) .bf16 (shapeCast S512x256 v shapeCasts_S512x256_S512x256) bitsLt_bf16_f32)) = v
  rw [asRows_asSlot, shapeCast_id]; rfl

theorem fold_eq (u : Vec Ideal S512x256 .bf16) (v : Vec Ideal S512x256 .f32) :
    asRows (F := Ideal) (k0_pay8 (asSlot u) v) = fun x => (u x + v x : EReal) := by
  show asRows (asSlot (F := Ideal) (truncf (F := Ideal) .bf16 (addf (F := Ideal) (extf (F := Ideal) .f32 (asRows (asSlot u)) bitsLt_bf16_f32)
    (shapeCast S512x256 v shapeCasts_S512x256_S512x256)) bitsLt_bf16_f32)) = _
  rw [asRows_asSlot, asRows_asSlot, shapeCast_id]; rfl

theorem finish_eq (u : Vec Ideal S512x256 .bf16) (v : Vec Ideal S512x256 .f32) :
    k0_pay21 (F := Ideal) (asSlot u) v = fun x => act (u x + v x : EReal) := by
  unfold k0_pay21
  rw [show shapeCast S512x256 (asSlot u) shapeCasts_S1x512x256_S512x256 = u from asRows_asSlot u, shapeCast_id]
  funext x
  show Ideal.tanh (u x + v x) * (u x + v x) * (u x + v x)
    + max (u x + v x : EReal) (Ideal.ofBits .f32 0x00000000#32) * max (u x + v x : EReal) (Ideal.ofBits .f32 0x00000000#32)
      * max (u x + v x : EReal) (Ideal.ofBits .f32 0x00000000#32) = act (u x + v x : EReal)
  rw [Ideal.ofBits_zero_f32]; rfl

theorem finished_eq (u : Vec Ideal S512x256 .bf16) (v : Vec Ideal S512x256 .f32) :
    asRows (F := Ideal) (k0_pay22 (asSlot u) v) = fun x => act (u x + v x : EReal) := by
  show asRows (asSlot (F := Ideal) (truncf (F := Ideal) .bf16 (k0_pay21 (F := Ideal) (asSlot u) v) bitsLt_bf16_f32)) = _
  rw [asRows_asSlot, finish_eq]; rfl

theorem pass_eq (u : Vec Ideal S512x256 .bf16) : k0_pay27 (F := Ideal) (asSlot u) = u := by
  show extf (F := Ideal) .f32 (asRows (asSlot (F := Ideal) u)) bitsLt_bf16_f32 = u
  rw [asRows_asSlot]; rfl

/-! ## The offsets -/

variable (c : Dev nD) (d : Bool) (s : Fin 2)

set_option maxRecDepth 8000 in
/-- The chunk that a device finishes is the one it writes first, -/
theorem off_own : offFold c 2 d s = offTurn c d s := by revert c d s; decide
set_option maxRecDepth 8000 in
/-- and the one that the devices behind it have added to. -/
theorem off_back1 : offFold (behind d c) 1 d s = offTurn c d s := by revert c d s; decide
set_option maxRecDepth 8000 in
theorem off_back2 : offFold (behind d (behind d c)) 0 d s = offTurn c d s := by revert c d s; decide
set_option maxRecDepth 8000 in
theorem off_back3 : offFirst (behind d (behind d (behind d c))) d s = offTurn c d s := by revert c d s; decide

set_option maxRecDepth 8000 in
/-- What is brought to a device it writes where the device that finished it did. -/
theorem off_pass0 : offTurn (behind d c) d s = offPass c 0 d s := by revert c d s; decide
set_option maxRecDepth 8000 in
theorem off_pass1 : offTurn (behind d (behind d c)) d s = offPass c 1 d s := by revert c d s; decide
set_option maxRecDepth 8000 in
theorem off_pass2 : offTurn (behind d (behind d (behind d c))) d s = offPass c 2 d s := by revert c d s; decide

theorem blk_at {F : FTy → Type} (f : Vec F S2048x1024 .f32) {o o' : Fin 2 → ℕ} (e : o = o') (hi : InB o) (hi' : InB o') :
    blk f o hi = blk f o' hi' := by subst e; rfl

/-- Going once around the ring meets every device once. -/
theorem sum_ring (g : Dev nD → EReal) :
    g (behind d (behind d (behind d c))) + g (behind d (behind d c)) + g (behind d c) + g c = ∑ e, g e := by
  rw [show (∑ e, g e) = g 0 + g 1 + g 2 + g 3 from Fin.sum_univ_four g]
  cases d <;> fin_cases c
  · show g 3 + g 2 + g 1 + g 0 = _; ac_rfl
  · show g 0 + g 3 + g 2 + g 1 = _; ac_rfl
  · show g 1 + g 0 + g 3 + g 2 = _; ac_rfl
  · show g 2 + g 1 + g 0 + g 3 = _; ac_rfl
  · show g 1 + g 2 + g 3 + g 0 = _; ac_rfl
  · show g 2 + g 3 + g 0 + g 1 = _; ac_rfl
  · show g 3 + g 0 + g 1 + g 2 = _; ac_rfl
  · show g 0 + g 1 + g 2 + g 3 = _; ac_rfl

/-! ## The lanes -/

variable (T : Dev nD → Vec Ideal S2048x1024 .f32)

/-- What three devices behind `c` have summed, with `c`'s own chunk. -/
theorem total_eq (x : S512x256.Idx) :
    (sum2 T d s (behind d c) x + blk (T c) (offFold c 2 d s) (offFold_inb c 2 d s) x : EReal)
      = ∑ e, blk (T e) (offTurn c d s) (offTurn_inb c d s) x := by
  unfold sum2 sum1 sum0
  rw [fold_eq, fold_eq, first_eq, blk_at _ (off_own c d s) _ (offTurn_inb c d s), blk_at _ (off_back1 c d s) _ (offTurn_inb c d s),
    blk_at _ (off_back2 c d s) _ (offTurn_inb c d s), blk_at _ (off_back3 c d s) _ (offTurn_inb c d s)]
  exact sum_ring c d fun e => blk (T e) (offTurn c d s) (offTurn_inb c d s) x

/-- The chunk that lane `(d, s)` of device `c` finishes. -/
theorem fin0_apply (x : S512x256.Idx) :
    fin0 T d s c x = act (∑ e, blk (T e) (offTurn c d s) (offTurn_inb c d s) x) := by
  unfold fin0
  rw [finished_eq, ← total_eq]

/-- What lane `(d, s)` of device `c` writes at each of its four places. -/
theorem outVal_apply (x : S512x256.Idx) : ∀ j : Fin 4,
    outVal T c d s j x = act (∑ e, blk (T e) (outOff c d s j) (outOff_inb c d s j) x)
  | 0 => by
    show k0_pay21 (F := Ideal) _ _ x = act (∑ e, blk (T e) (offTurn c d s) (offTurn_inb c d s) x)
    rw [finish_eq, ← total_eq]
  | 1 => by
    show k0_pay27 (F := Ideal) (asSlot (fin0 T d s (behind d c))) x = act (∑ e, blk (T e) (offPass c 0 d s) (offPass_inb c 0 d s) x)
    rw [pass_eq, fin0_apply]
    exact congrArg act (Finset.sum_congr rfl fun e _ => congrFun (blk_at (T e) (off_pass0 c d s) _ _) x)
  | 2 => by
    show k0_pay27 (F := Ideal) (asSlot (fin0 T d s (behind d (behind d c)))) x = act (∑ e, blk (T e) (offPass c 1 d s) (offPass_inb c 1 d s) x)
    rw [pass_eq, fin0_apply]
    exact congrArg act (Finset.sum_congr rfl fun e _ => congrFun (blk_at (T e) (off_pass1 c d s) _ _) x)
  | 3 => by
    show k0_pay27 (F := Ideal) (asSlot (fin0 T d s (behind d (behind d (behind d c))))) x = act (∑ e, blk (T e) (offPass c 2 d s) (offPass_inb c 2 d s) x)
    rw [pass_eq, fin0_apply]
    exact congrArg act (Finset.sum_congr rfl fun e _ => congrFun (blk_at (T e) (off_pass2 c d s) _ _) x)

/-- The output of every device, at every index. -/
theorem outAt_apply (y : S2048x1024.Idx) : outAt T c y = act (∑ e, T e y) := by
  unfold outAt
  rw [outVal_apply]
  refine congrArg act (Finset.sum_congr rfl fun e _ => ?_)
  unfold blk
  rw [emb_within]

end Cert.Proof

end
-- ==== Proof.Reference.lean ====
/-
  What the reference computes over the extended reals, and the equation: the rows of the whole array
  that it adds are the rows the four devices hold, so its result is what every device's output is.
-/
module

public import proofs.«01_k».proof.Proof.Value
public import proofs.«01_k».proof.Proof.Gen.ReferenceIdeal.Run
public import Idealize.ShloMosaic.Lib.Layout

@[expose] public section

noncomputable section

namespace Cert.Proof

open Cert.ReferenceIdeal Cert.ReferenceIdeal.Gen

open Idealize.ShloMosaic Idealize.SL.Sem

/-- The reference's sum over the leading axis of the reshaped array, -/
def refSum (w : Vec Ideal S8192x1024 .f32) : Vec Ideal S2048x1024 .f32 :=
  Host.reduceAdd (F := Ideal) (shapeCast S4x2048x1024 w shapeCasts_S8192x1024_S4x2048x1024) (constant S_ .f32 0x00000000#32)
    reducesTo_S4x2048x1024_S2048x1024_d0 h_S_

/-- and its result. -/
def refOut (w : Vec Ideal S8192x1024 .f32) : Vec Ideal S2048x1024 .f32 := fun y => act (refSum w y)

/-- The devices' parts of a whole array. -/
def parts (w : Vec Ideal S8192x1024 .f32) (e : Fin 4) : Vec Ideal S2048x1024 .f32 :=
  Layout.block ⟨2, ![2048, 1024]⟩ ⟨2, ![8192, 1024]⟩ 0 4 e w

/-- The sum is the sum of the four parts. -/
theorem refSum_apply (w : Vec Ideal S8192x1024 .f32) (y : S2048x1024.Idx) : refSum w y = ∑ e, parts w e y := by
  show Ideal.hostReduceAdd reducesTo_S4x2048x1024_S2048x1024_d0 (shapeCast S4x2048x1024 w shapeCasts_S8192x1024_S4x2048x1024)
    (Ideal.ofBits .f32 0x00000000#32) y = _
  rw [Ideal.ofBits_zero_f32, Ideal.hostReduceAdd_r3_a0, zero_add]
  refine Finset.sum_congr rfl fun e _ => ?_
  show w (Shape.reshapeEquiv _ _) = w (Layout.Tiles.idx _ e y)
  congr 1
  refine Shape.reshapeEquiv_eq_of_rowMajor _ ?_
  rw [Shape.rowMajor_val_two, Shape.rowMajor_val_three, Layout.Tiles.idx_val, Layout.Tiles.idx_val]
  show (e.val * 2048 + (y 0).val) * 1024 + (y 1).val = (e.val * 2048 + (y 0).val) * 1024 + (y 1).val
  rfl

/-- The reference runs, ends with `refOut` of its argument, and leaves its argument as it is. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = refOut (m ((c.tc : Thread nD τ).loc main_arg0))
      ∧ r.2.mem ((c.tc : Thread nD τ).loc main_arg0) = m ((c.tc : Thread nD τ).loc main_arg0) := by
  refine (θ_run defs _ _).mono (fun _ h c => ⟨(h c).1.trans ?_, (h c).2⟩) (Value.run (F := Ideal) m ρ)
  funext y
  show Ideal.tanh (refSum _ y) * refSum _ y * refSum _ y
    + max (refSum _ y) (Ideal.ofBits .f32 0x00000000#32) * max (refSum _ y) (Ideal.ofBits .f32 0x00000000#32)
      * max (refSum _ y) (Ideal.ofBits .f32 0x00000000#32) = act (refSum _ y)
  rw [Ideal.ofBits_zero_f32]; rfl

/-- Where every device holds its part of the whole array, every device's output is the reference's. -/
theorem out_eq (w : Vec Ideal S8192x1024 .f32) (T : Dev Cert.KernelIdeal.nD → Vec Ideal S2048x1024 .f32)
    (hT : ∀ e, T e = parts w e) (c : Dev Cert.KernelIdeal.nD) : outAt (F := Ideal) T c = refOut w := by
  funext y
  rw [outAt_apply]
  show act _ = act (refSum w y)
  rw [refSum_apply]
  exact congrArg act (Finset.sum_congr rfl fun e _ => congrFun (hT e) y)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Main
public import proofs.«01_k».proof.Proof.Reference

@[expose] public section

noncomputable section

namespace Cert.Proof

open Idealize.ShloMosaic Idealize.SL.Sem

/-- The two programs have the same body table: the same text, read at the same floats. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem defs_eq : Cert.Kernel.defs (F := Bits) = Cert.KernelIdeal.defs (F := Bits) :=
  congrArg (Pipeline.defs Cert.KernelIdeal.pcfgs) bodies_eq

/-- The kernel, with its floats as bits, ends without fault, with its argument unchanged and every semaphore at zero. -/
theorem frame_kernel : Cert.quiescent_Kernel := by
  intro m ρ _
  rw [defs_eq]
  exact (θ_run Cert.KernelIdeal.defs _ _).mono (fun _ h => ⟨fun c => (h.1 c).1, h.2⟩) (run_main (F := Bits) m ρ)

/-- The same over the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The reference ends without fault and leaves its argument; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (run_reference m ρ)

/-- Over the extended reals, every device's result is the reference's. -/
theorem same_value : Cert.algebraic_KernelIdeal_ReferenceIdeal := by
  intro m ρ m' ρ' _ hm
  refine ⟨refOut (m' (((0 : Dev Cert.ReferenceIdeal.nD).tc : Thread Cert.ReferenceIdeal.nD Cert.ReferenceIdeal.τ).loc
    Cert.ReferenceIdeal.main_arg0)), ?_, ?_⟩
  · exact (θ_run Cert.KernelIdeal.defs _ _).mono
      (fun _ h c => ⟨(h.1 c).2.trans (out_eq _ _ (fun e => (inp_eq m e).trans (hm e)) c), (h.1 c).1⟩) (run_main (F := Ideal) m ρ)
  · exact (θ_run Cert.ReferenceIdeal.defs _ _).mono (fun _ h => h 0) (run_reference m' ρ')

/-- The certificate. -/
theorem claim : Cert.Claim := ⟨Cert.Kernel.Gen.facts, Cert.KernelIdeal.Gen.facts, Cert.ReferenceIdeal.Gen.facts,
  frame_kernel, frame_ideal, frame_reference, trivial, same_value⟩

end Cert.Proof

end
